-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_indices_in_range_bias_finite [hPre_indices_in_range_bias_finite : Cert.Pre_indices_in_range_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range_bias_finite [hPre_indices_in_range_bias_finite : Cert.Pre_indices_in_range_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_indices_in_range_bias_finite [hKernelIdeal : Cert.KernelIdeal.Facts] [hPre_indices_in_range_bias_finite : Cert.Pre_indices_in_range_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range_bias_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_indices_in_range_bias_finite [hReferenceIdeal : Cert.ReferenceIdeal.Facts] [hPre_indices_in_range_bias_finite : Cert.Pre_indices_in_range_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_indices_in_range_bias_finite [hKernelIdeal : Cert.KernelIdeal.Facts] [hReferenceIdeal : Cert.ReferenceIdeal.Facts] [hPre_indices_in_range_bias_finite : Cert.Pre_indices_in_range_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_indices_in_range_bias_finite : Cert.Pre_indices_in_range_bias_finite.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_indices_in_range_bias_finite (hKernelIdeal := hKernelIdeal) (hPre_indices_in_range_bias_finite := hPre_indices_in_range_bias_finite)
    ∧ quiescent_ReferenceIdeal (hReferenceIdeal := hReferenceIdeal)
    ∧ quiescent_ReferenceIdeal_pre_indices_in_range_bias_finite (hReferenceIdeal := hReferenceIdeal) (hPre_indices_in_range_bias_finite := hPre_indices_in_range_bias_finite)
    ∧ preserves_Kernel_KernelIdeal
    ∧ algebraic_KernelIdeal_ReferenceIdeal_pre_indices_in_range_bias_finite (hKernelIdeal := hKernelIdeal) (hReferenceIdeal := hReferenceIdeal) (hPre_indices_in_range_bias_finite := hPre_indices_in_range_bias_finite)
-- ==== Pre_indices_in_range.lean ====
abbrev S1024 : Shape := ⟨1, ![1024]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : IVec S1024 32) (main_arg2 : FVec F S100000x64 .f32) (main_arg3 : FVec F S64x64 .f32) (main_arg4 : FVec F S64 .f32) (main_arg5 : FVec F S100000x64 .f32) (main_arg6 : FVec F S100000 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 32 := constantI S_ 32 0#32
  let main_v5 : IVec S1024 32 := broadcastInDim S1024 ![] bcast_S_S1024 main_c_1
  let main_v6 : IVec S1024 1 := cmpi .sge main_arg1 main_v5
  let main_v7 : IVec S1024 1 := andi main_v4 main_v6
  let main_c_2 : IVec S_ 32 := constantI S_ 32 100000#32
  let main_v8 : IVec S1024 32 := broadcastInDim S1024 ![] bcast_S_S1024 main_c_2
  let main_v9 : IVec S1024 1 := cmpi .slt main_arg1 main_v8
  let main_v10 : IVec S1024 1 := andi main_v7 main_v9
  main_v10
-- ==== Pre_indices_in_range_bias_finite.lean ====
abbrev S1024 : Shape := ⟨1, ![1024]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S_ : Shape := ⟨0, ![]⟩

class Facts : Prop where
  bcast_S_S1024 : S_.BroadcastsInDim S1024 (![] : Fin 0 → Fin S1024.rank)
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : IVec S1024 32) (main_arg1 : IVec S1024 32) (main_arg2 : FVec F S100000x64 .f32) (main_arg3 : FVec F S64x64 .f32) (main_arg4 : FVec F S64 .f32) (main_arg5 : FVec F S100000x64 .f32) (main_arg6 : FVec F S100000 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 32 := constantI S_ 32 0#32
  let main_v5 : IVec S1024 32 := broadcastInDim S1024 ![] bcast_S_S1024 main_c_1
  let main_v6 : IVec S1024 1 := cmpi .sge main_arg1 main_v5
  let main_v7 : IVec S1024 1 := andi main_v4 main_v6
  let main_c_2 : IVec S_ 32 := constantI S_ 32 100000#32
  let main_v8 : IVec S1024 32 := broadcastInDim S1024 ![] bcast_S_S1024 main_c_2
  let main_v9 : IVec S1024 1 := cmpi .slt main_arg1 main_v8
  let main_v10 : IVec S1024 1 := andi main_v7 main_v9
  let main_v11 : FVec F S100000 .f32 := Host.absf main_arg6
  let main_cst : FVec F S_ .f32 := constant S_ .f32 0x7F800000#32
  let main_v12 : FVec F S100000 .f32 := broadcastInDim S100000 ![] bcast_S_S100000 main_cst
  let main_v13 : IVec S100000 1 := cmpf .olt main_v11 main_v12
  let main_c_3 : IVec S_ 1 := constantI S_ 1 1#1
  let main_v14 : IVec S_ 1 := (fun x v => Host.reduce IntOp.andi x v reducesTo_S100000_S_d0 h_S_) main_v13 main_c_3
  let main_v15 : IVec S1024 1 := broadcastInDim S1024 ![] bcast_S_S1024 main_v14
  let main_v16 : IVec S1024 1 := andi main_v10 main_v15
  main_v16
-- ==== Kernel.lean ====
abbrev S1024 : Shape := ⟨1, ![1024]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S50000x64 : Shape := ⟨2, ![50000, 64]⟩
abbrev S50000x128 : Shape := ⟨2, ![50000, 128]⟩
abbrev S_ : Shape := ⟨0, ![]⟩
abbrev S100096 : Shape := ⟨1, ![100096]⟩
abbrev S782x128 : Shape := ⟨2, ![782, 128]⟩
abbrev S1024x128 : Shape := ⟨2, ![1024, 128]⟩
abbrev S32 : Shape := ⟨1, ![32]⟩
abbrev S32x128 : Shape := ⟨2, ![32, 128]⟩
abbrev S25x1x4000 : Shape := ⟨3, ![25, 1, 4000]⟩
abbrev S1024x1 : Shape := ⟨2, ![1024, 1]⟩
abbrev S1x64 : Shape := ⟨2, ![1, 64]⟩
abbrev S1024x64 : Shape := ⟨2, ![1024, 64]⟩
abbrev S1x1 : Shape := ⟨2, ![1, 1]⟩
abbrev S4000x64 : Shape := ⟨2, ![4000, 64]⟩
abbrev S1x1x4000 : Shape := ⟨3, ![1, 1, 4000]⟩
abbrev S1x4000 : Shape := ⟨2, ![1, 4000]⟩
abbrev S1000x64 : Shape := ⟨2, ![1000, 64]⟩
abbrev S1024x1000 : Shape := ⟨2, ![1024, 1000]⟩
abbrev S1x1000 : Shape := ⟨2, ![1, 1000]⟩
abbrev S1x1024 : Shape := ⟨2, ![1, 1024]⟩
abbrev S1 : Shape := ⟨1, ![1]⟩

abbrev nBuf : Table → Nat
  | .hbm => 81
  | .local .tc .vmem => 15
  | .local .scVector .vmem => 6
  | _ => 0

abbrev bufTy : (tb : Table) → Fin (nBuf tb) → BufTy
  | .hbm, ⟨0, _⟩ => ⟨S1024, .i32⟩
  | .hbm, ⟨1, _⟩ => ⟨S1024, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S100000x64, .f32⟩
  | .hbm, ⟨6, _⟩ => ⟨S100000, .f32⟩
  | .hbm, ⟨7, _⟩ => ⟨S50000x64, .f32⟩
  | .hbm, ⟨8, _⟩ => ⟨S50000x64, .f32⟩
  | .hbm, ⟨9, _⟩ => ⟨S50000x128, .f32⟩
  | .hbm, ⟨10, _⟩ => ⟨S50000x64, .f32⟩
  | .hbm, ⟨11, _⟩ => ⟨S50000x64, .f32⟩
  | .hbm, ⟨12, _⟩ => ⟨S50000x128, .f32⟩
  | .hbm, ⟨13, _⟩ => ⟨S_, .i32⟩
  | .hbm, ⟨14, _⟩ => ⟨S_, .f32⟩
  | .hbm, ⟨15, _⟩ => ⟨S100096, .f32⟩
  | .hbm, ⟨16, _⟩ => ⟨S782x128, .f32⟩
  | .hbm, ⟨17, _⟩ => ⟨S_, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S_, .i32⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S1024, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x128, .f32⟩
  | .hbm, ⟨72, _⟩ => ⟨S1024x128, .f32⟩
  | .hbm, ⟨73, _⟩ => ⟨S1024x128, .f32⟩
  | .hbm, ⟨74, _⟩ => ⟨S25x1x4000, .f32⟩
  | .hbm, ⟨75, _⟩ => ⟨S1024x1, .i32⟩
  | .hbm, ⟨76, _⟩ => ⟨S1x64, .f32⟩
  | .hbm, ⟨77, _⟩ => ⟨S1024x1, .i32⟩
  | .hbm, ⟨78, _⟩ => ⟨S1024x64, .f32⟩
  | .hbm, ⟨79, _⟩ => ⟨S1x1, .f32⟩
  | .hbm, ⟨80, _⟩ => ⟨S_, .f32⟩
  | .local .tc .vmem, ⟨0, _⟩ => ⟨S1024x128, .f32⟩
  | .local .tc .vmem, ⟨1, _⟩ => ⟨S1024x1, .i32⟩
  | .local .tc .vmem, ⟨2, _⟩ => ⟨S64x64, .f32⟩
  | .local .tc .vmem, ⟨3, _⟩ => ⟨S1x64, .f32⟩
  | .local .tc .vmem, ⟨4, _⟩ => ⟨S4000x64, .f32⟩
  | .local .tc .vmem, ⟨5, _⟩ => ⟨S4000x64, .f32⟩
  | .local .tc .vmem, ⟨6, _⟩ => ⟨S1x1x4000, .f32⟩
  | .local .tc .vmem, ⟨7, _⟩ => ⟨S1x1x4000, .f32⟩
  | .local .tc .vmem, ⟨8, _⟩ => ⟨S1024x128, .f32⟩
  | .local .tc .vmem, ⟨9, _⟩ => ⟨S1024x1, .i32⟩
  | .local .tc .vmem, ⟨10, _⟩ => ⟨S1024x128, .f32⟩
  | .local .tc .vmem, ⟨11, _⟩ => ⟨S1024x64, .f32⟩
  | .local .tc .vmem, ⟨12, _⟩ => ⟨S1x1, .f32⟩
  | .local .tc .vmem, ⟨13, _⟩ => ⟨S1024x64, .f32⟩
  | .local .tc .vmem, ⟨14, _⟩ => ⟨S1024x128, .f32⟩
  | .local .scVector .vmem, ⟨0, _⟩ => ⟨S32, .i32⟩
  | .local .scVector .vmem, ⟨1, _⟩ => ⟨S32, .i32⟩
  | .local .scVector .vmem, ⟨2, _⟩ => ⟨S32, .i32⟩
  | .local .scVector .vmem, ⟨3, _⟩ => ⟨S32x128, .f32⟩
  | .local .scVector .vmem, ⟨4, _⟩ => ⟨S32x128, .f32⟩
  | .local .scVector .vmem, ⟨5, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v8 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_c_2 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_c : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_0 : Ref sig .tc := ⟨.hbm, 67, rfl⟩
abbrev main_call3_v12 : Ref sig .tc := ⟨.hbm, 68, rfl⟩
abbrev main_call3_v13 : Ref sig .tc := ⟨.hbm, 69, rfl⟩
abbrev main_v10 : Ref sig .tc := ⟨.hbm, 70, rfl⟩
abbrev main_v11_0 : Ref sig .tc := ⟨.hbm, 71, rfl⟩
abbrev main_v11_1 : Ref sig .tc := ⟨.hbm, 72, rfl⟩
abbrev main_v11_2 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16_0 : Ref sig .tc := ⟨.hbm, 78, rfl⟩
abbrev main_v16_1 : Ref sig .tc := ⟨.hbm, 79, rfl⟩
abbrev main_v17 : Ref sig .tc := ⟨.hbm, 80, rfl⟩
abbrev main_v2_scv : Ref sig .scVector := ⟨.hbm, 9, rfl⟩
abbrev main_v5_scv : Ref sig .scVector := ⟨.hbm, 12, rfl⟩
abbrev main_v7_scv : Ref sig .scVector := ⟨.hbm, 16, rfl⟩
abbrev main_v8_scv : Ref sig .scVector := ⟨.hbm, 34, rfl⟩
abbrev main_v9_scv : Ref sig .scVector := ⟨.hbm, 52, rfl⟩
abbrev main_v10_scv : Ref sig .scVector := ⟨.hbm, 70, rfl⟩
abbrev main_v11_0_scv : Ref sig .scVector := ⟨.hbm, 71, rfl⟩
abbrev main_v11_1_scv : Ref sig .scVector := ⟨.hbm, 72, rfl⟩
abbrev main_v11_2_scv : Ref sig .scVector := ⟨.hbm, 73, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg5_0 : Ref sig .tc := ⟨.vmem, 6, rfl⟩
abbrev cc1_stg5_1 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_scratch0 : Ref sig .tc := ⟨.vmem, 13, rfl⟩
abbrev cc1_scratch1 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11_r3 : BitVec 32 := 0#32
  ![v2.toNat, 0]
abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c24_i32_36 : BitVec 32 := 24#32
  let v144 : BitVec 1 := Scalar.cmpi .eq arg0 c24_i32_36
  let v145 : BitVec 32 := Scalar.extui v144
  let c0_i32_37 : BitVec 32 := 0#32
  let v146 : BitVec 1 := Scalar.cmpi .ne v145 c0_i32_37
  v146

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x4000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S1x64 : Shape := ⟨2, ![1, 64]⟩
abbrev S64x100000 : Shape := ⟨2, ![64, 100000]⟩
abbrev S1024x100000 : Shape := ⟨2, ![1024, 100000]⟩
abbrev S1x100000 : Shape := ⟨2, ![1, 100000]⟩
abbrev S1024x1x1 : Shape := ⟨3, ![1024, 1, 1]⟩
abbrev S1x1x1 : Shape := ⟨3, ![1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S100000x64, .f32⟩
  | .hbm, ⟨6, _⟩ => ⟨S100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S1024x64, .f32⟩
  | .hbm, ⟨26, _⟩ => ⟨S1024x64, .i1⟩
  | .hbm, ⟨27, _⟩ => ⟨S_, .f32⟩
  | .hbm, ⟨28, _⟩ => ⟨S1024x64, .f32⟩
  | .hbm, ⟨29, _⟩ => ⟨S1024x64, .f32⟩
  | .hbm, ⟨30, _⟩ => ⟨S64x64, .f32⟩
  | .hbm, ⟨31, _⟩ => ⟨S1024x64, .f32⟩
  | .hbm, ⟨32, _⟩ => ⟨S1x64, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .i1⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024x64, .f32⟩
  | .hbm, ⟨47, _⟩ => ⟨S1024x64, .f32⟩
  | .hbm, ⟨48, _⟩ => ⟨S64x100000, .f32⟩
  | .hbm, ⟨49, _⟩ => ⟨S1024x100000, .f32⟩
  | .hbm, ⟨50, _⟩ => ⟨S1x100000, .f32⟩
  | .hbm, ⟨51, _⟩ => ⟨S1024x100000, .f32⟩
  | .hbm, ⟨52, _⟩ => ⟨S1024x100000, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .i1⟩
  | .hbm, ⟨59, _⟩ => ⟨S_, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1024x1, .f32⟩
  | .hbm, ⟨64, _⟩ => ⟨S1024x100000, .f32⟩
  | .hbm, ⟨65, _⟩ => ⟨S1024x100000, .f32⟩
  | .hbm, ⟨66, _⟩ => ⟨S1024x100000, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024x1, .i32⟩
  | .hbm, ⟨72, _⟩ => ⟨S_, .i32⟩
  | .hbm, ⟨73, _⟩ => ⟨S1024x1, .i32⟩
  | .hbm, ⟨74, _⟩ => ⟨S1024x1, .i1⟩
  | .hbm, ⟨75, _⟩ => ⟨S_, .i32⟩
  | .hbm, ⟨76, _⟩ => ⟨S1024x1, .i32⟩
  | .hbm, ⟨77, _⟩ => ⟨S1024x1, .i32⟩
  | .hbm, ⟨78, _⟩ => ⟨S1024x1, .i32⟩
  | .hbm, ⟨79, _⟩ => ⟨S1024x1x1, .i32⟩
  | .hbm, ⟨80, _⟩ => ⟨S1, .i32⟩
  | .hbm, ⟨81, _⟩ => ⟨S_, .i32⟩
  | .hbm, ⟨82, _⟩ => ⟨S1024x1x1, .i32⟩
  | .hbm, ⟨83, _⟩ => ⟨S1024x1x1, .i1⟩
  | .hbm, ⟨84, _⟩ => ⟨S1x1x1, .i32⟩
  | .hbm, ⟨85, _⟩ => ⟨S1024x1x1, .i32⟩
  | .hbm, ⟨86, _⟩ => ⟨S1024x1x1, .i1⟩
  | .hbm, ⟨87, _⟩ => ⟨S1024x1x1, .i1⟩
  | .hbm, ⟨88, _⟩ => ⟨S_, .i1⟩
  | .hbm, ⟨89, _⟩ => ⟨S1024x1, .i1⟩
  | .hbm, ⟨90, _⟩ => ⟨S1024x1, .f32⟩
  | .hbm, ⟨91, _⟩ => ⟨S_, .f32⟩
  | .hbm, ⟨92, _⟩ => ⟨S1024x1, .f32⟩
  | .hbm, ⟨93, _⟩ => ⟨S1024x1, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_cst_0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_cst_2 : Ref sig .tc := ⟨.hbm, 56, rfl⟩
abbrev main_v20 : Ref sig .tc := ⟨.hbm, 57, rfl⟩
abbrev main_v21 : Ref sig .tc := ⟨.hbm, 58, rfl⟩
abbrev main_cst_3 : Ref sig .tc := ⟨.hbm, 59, rfl⟩
abbrev main_call3_v0 : Ref sig .tc := ⟨.hbm, 60, rfl⟩
abbrev main_call3_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call4_c : Ref sig .tc := ⟨.hbm, 72, rfl⟩
abbrev main_call4_v0 : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_c_1 : Ref sig .tc := ⟨.hbm, 80, rfl⟩
abbrev main_call4_c_2 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_c_3 : Ref sig .tc := ⟨.hbm, 88, rfl⟩
abbrev main_call4_v12 : Ref sig .tc := ⟨.hbm, 89, rfl⟩
abbrev main_call4_v13 : Ref sig .tc := ⟨.hbm, 90, rfl⟩
abbrev main_call4_cst : Ref sig .tc := ⟨.hbm, 91, rfl⟩
abbrev main_call4_v14 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_5 : Ref sig .tc := ⟨.hbm, 96, rfl⟩
abbrev main_v34 : Ref sig .tc := ⟨.hbm, 97, rfl⟩
abbrev main_cst_6 : Ref sig .tc := ⟨.hbm, 98, rfl⟩
abbrev main_v35 : Ref sig .tc := ⟨.hbm, 99, rfl⟩

abbrev nD : Nat := 1
abbrev τ : Topo := Topo.v7x

variable {F : FTy → Type} [FloatOps F]
-- ==== Proof.Setup.lean ====
/-
  The set-up that the proofs about `KernelIdeal`'s run share: the program as the SparseCore launch theorem sees it, the
  resource algebra, the host operations before and after the two kernels as lists, the contents of the buffers at each
  stage of `@main`, and what the one SparseCore call passes to its tasks and gets back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F]

/-! ## The program as the launch theorem sees it -/

/-- The labels below the SparseCore layer: the kernels' and the pipeline's. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The body table below the SparseCore layer. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The kernel runs on 16 subcores … -/
theorem nSub_zero : (K (F := F)).nSub 0 = 16 := rfl
/-- … of 2 cores. -/
theorem nCore_zero : (K (F := F)).nCore 0 = 2 := rfl

/-- The side conditions of the launch theorem: the handshake semaphores are distinct and not scoped, and no task shares memory. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The pipeline's component. -/
abbrev EP : Emb UP (MT nD τ sig (HIx 1) (Elt F) ℕ UU ℕ) := (Emb.inl : Emb UP (UP × Counters)).trans embR

/-! ## The host operations -/

/-- The padding function's two operations. -/
abbrev padOps (arg0 : StableHlo.TRef sig ⟨S100000, .f32⟩) (arg1 : StableHlo.TRef sig ⟨S_, .i32⟩) (φ : fn_pad.Bufs) : List (HloOp τ sig (Elt F)) :=
  [StableHlo.TRef.unary arg1 φ.v0 (sitofp .f32),
   StableHlo.TRef.binary arg0 φ.v0 φ.v1 (fun x v => pad S100096 ![0] ![96] ![0] x v pads_S100000_S100096_0960 h_S_)]

/-- The floor division's seventeen operations. -/
abbrev divOps (arg0 : StableHlo.TRef sig ⟨S1024, .i32⟩) (arg1 : StableHlo.TRef sig ⟨S_, .i32⟩) (φ : fn_floor_divide.Bufs) : List (HloOp τ sig (Elt F)) :=
  [StableHlo.TRef.unary arg1 φ.v0 id,
   StableHlo.TRef.unary φ.v0 φ.v1 (broadcastInDim S1024 ![] bcast_S_S1024),
   StableHlo.TRef.binary arg0 φ.v1 φ.v2 Host.divsi,
   StableHlo.TRef.unary arg0 φ.v3 signi,
   StableHlo.TRef.unary φ.v0 φ.v4 signi,
   StableHlo.TRef.unary φ.v4 φ.v5 (broadcastInDim S1024 ![] bcast_S_S1024),
   StableHlo.TRef.binary φ.v3 φ.v5 φ.v6 (cmpi .ne),
   StableHlo.TRef.unary φ.v0 φ.v7 (broadcastInDim S1024 ![] bcast_S_S1024),
   StableHlo.TRef.binary arg0 φ.v7 φ.v8 Host.remsi,
   StableHlo.TRef.nullary φ.c (constantI S_ 32 0#32),
   StableHlo.TRef.unary φ.c φ.v9 (broadcastInDim S1024 ![] bcast_S_S1024),
   StableHlo.TRef.binary φ.v8 φ.v9 φ.v10 (cmpi .ne),
   StableHlo.TRef.binary φ.v6 φ.v10 φ.v11 andi,
   StableHlo.TRef.nullary φ.c_0 (constantI S_ 32 1#32),
   StableHlo.TRef.unary φ.c_0 φ.v12 (broadcastInDim S1024 ![] bcast_S_S1024),
   StableHlo.TRef.binary φ.v2 φ.v12 φ.v13 subi,
   StableHlo.TRef.ternary φ.v11 φ.v13 φ.v2 φ.call0.v0 select]

/-- Even rows beside odd rows of a table of 100000 rows of 64. -/
abbrev packTab {α : Type} (x : S100000x64.Idx → α) : S50000x128.Idx → α :=
  concatenate S50000x128 1 [⟨S50000x64, Host.slice S50000x64 ![0, 0] ![2, 1] x slicesBy_S100000x64_S50000x64_0s2_0s1⟩,
    ⟨S50000x64, Host.slice S50000x64 ![1, 0] ![2, 1] x slicesBy_S100000x64_S50000x64_1s2_0s1⟩] concatenates_S50000x64_S50000x64_S50000x128_d1

/-- The operations before the SparseCore call, in order: the two packed tables and the padded bias … -/
abbrev preOps₁ : List (HloOp τ sig (Elt F)) :=
  [StableHlo.unary main_arg2 main_v0 ((Host.slice S50000x64 ![0, 0] ![2, 1] · slicesBy_S100000x64_S50000x64_0s2_0s1) : (⟨S100000x64, .f32⟩ : BufTy).Contents (Elt F) → (⟨S50000x64, .f32⟩ : BufTy).Contents (Elt F)),
   StableHlo.unary main_arg2 main_v1 ((Host.slice S50000x64 ![1, 0] ![2, 1] · slicesBy_S100000x64_S50000x64_1s2_0s1) : (⟨S100000x64, .f32⟩ : BufTy).Contents (Elt F) → (⟨S50000x64, .f32⟩ : BufTy).Contents (Elt F)),
   StableHlo.binary main_v0 main_v1 main_v2 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
   StableHlo.unary main_arg5 main_v3 ((Host.slice S50000x64 ![0, 0] ![2, 1] · slicesBy_S100000x64_S50000x64_0s2_0s1) : (⟨S100000x64, .f32⟩ : BufTy).Contents (Elt F) → (⟨S50000x64, .f32⟩ : BufTy).Contents (Elt F)),
   StableHlo.unary main_arg5 main_v4 ((Host.slice S50000x64 ![1, 0] ![2, 1] · slicesBy_S100000x64_S50000x64_1s2_0s1) : (⟨S100000x64, .f32⟩ : BufTy).Contents (Elt F) → (⟨S50000x64, .f32⟩ : BufTy).Contents (Elt F)),
   StableHlo.binary main_v3 main_v4 main_v5 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
   StableHlo.nullary main_c (constantI S_ 32 0#32)]
/-- … then the padding, the reshape, and the three lists of row numbers. -/
abbrev preOps : List (HloOp τ sig (Elt F)) :=
  preOps₁ ++ padOps (.of main_arg6) (.of main_c) main_call0
    ++ [StableHlo.reshape main_v6 main_v7 (rfl : (.f32 : EltTy) = .f32) shapeCasts_S100096_S782x128, StableHlo.nullary main_c_0 (constantI S_ 32 2#32)]
    ++ divOps (.of main_arg0) (.of main_c_0) main_call1
    ++ [StableHlo.nullary main_c_1 (constantI S_ 32 2#32)]
    ++ divOps (.of main_arg1) (.of main_c_1) main_call2
    ++ [StableHlo.nullary main_c_2 (constantI S_ 32 128#32)]
    ++ divOps (.of main_arg1) (.of main_c_2) main_call3

/-- The operations between the two kernels. -/
abbrev midOps : List (HloOp τ sig (Elt F)) :=
  [StableHlo.reshape main_arg6 main_v12 (rfl : (.f32 : EltTy) = .f32) shapeCasts_S100000_S25x1x4000,
   StableHlo.reshape main_arg0 main_v13 (rfl : (.i32 : EltTy) = .i32) shapeCasts_S1024_S1024x1,
   StableHlo.reshape main_arg4 main_v14 (rfl : (.f32 : EltTy) = .f32) shapeCasts_S64_S1x64,
   StableHlo.reshape main_arg1 main_v15 (rfl : (.i32 : EltTy) = .i32) shapeCasts_S1024_S1024x1]

/-- The operation after the TensorCore kernel. -/
abbrev postOps : List (HloOp τ sig (Elt F)) :=
  [StableHlo.reshape main_v16_1 main_v17 (rfl : (.f32 : EltTy) = .f32) shapeCasts_S1x1_S_]

set_option maxHeartbeats 4000000 in
set_option maxRecDepth 16384 in
/-- `@main` is the first list, the SparseCore call, the second list, the TensorCore kernel's region, the last operation. -/
theorem main_eq (d : Dev nD) : main (F := F) d = (StableHlo.seq preOps >>= fun _ => sc.run d 0 >>= fun _ => StableHlo.seq midOps >>= fun _ =>
    Prog.lift (.customCall (SparseCore.inner (Pipeline.entry 0)) ()) >>= fun _ => StableHlo.seq postOps) := by
  rfl

/-! ## The contents of the buffers, stage by stage -/

variable (m : (ℓ : Loc nD τ sig) → Buf (Elt F) ℓ) (ρ : Dev nD → PrngReg)

/-- What the device's buffers hold at launch … -/
abbrev V0 (d : Dev nD) : Valuation τ sig (Elt F) := fun b => m (d, b)
/-- … and when the SparseCore call starts. -/
def V1 (d : Dev nD) : Valuation τ sig (Elt F) := StableHlo.after preOps (V0 m d)

/-- The rows of a table that a list of row numbers names (a number past the table's end is taken modulo its height). -/
def gath {α : Type} {n : ℕ} (hn : 0 < n) (tab : (⟨2, ![n, 128]⟩ : Shape).Idx → α) (ix : S1024.Idx → BitVec 32) : S1024x128.Idx → α :=
  fun y => tab (ix2 (n0 := n) (n1 := 128) ⟨(ix (ix1 (n := 1024) (y 0))).toNat % n, Nat.mod_lt _ hn⟩ (y 1))

abbrev e128Loc (d : Dev nD) : Loc nD τ sig := (SparseCore.T d).loc main_v2
abbrev w128Loc (d : Dev nD) : Loc nD τ sig := (SparseCore.T d).loc main_v5
abbrev b128Loc (d : Dev nD) : Loc nD τ sig := (SparseCore.T d).loc main_v7
abbrev i0Loc (d : Dev nD) : Loc nD τ sig := (SparseCore.T d).loc main_v8
abbrev i1Loc (d : Dev nD) : Loc nD τ sig := (SparseCore.T d).loc main_v9
abbrev i2Loc (d : Dev nD) : Loc nD τ sig := (SparseCore.T d).loc main_v10
abbrev o0Loc (d : Dev nD) : Loc nD τ sig := (SparseCore.T d).loc main_v11_0
abbrev o1Loc (d : Dev nD) : Loc nD τ sig := (SparseCore.T d).loc main_v11_1
abbrev o2Loc (d : Dev nD) : Loc nD τ sig := (SparseCore.T d).loc main_v11_2

/-- The call's operands: the three tables and the three lists. -/
abbrev e128 (d : Dev nD) : Buf (Elt F) (e128Loc d) := (V1 m d (Proc.devRef .tc main_v2) : Buf (Elt F) (d, Proc.devRef .tc main_v2))
abbrev w128 (d : Dev nD) : Buf (Elt F) (w128Loc d) := V1 m d (Proc.devRef .tc main_v5)
abbrev b128 (d : Dev nD) : Buf (Elt F) (b128Loc d) := V1 m d (Proc.devRef .tc main_v7)
abbrev i0 (d : Dev nD) : Buf (Elt F) (i0Loc d) := V1 m d (Proc.devRef .tc main_v8)
abbrev i1 (d : Dev nD) : Buf (Elt F) (i1Loc d) := V1 m d (Proc.devRef .tc main_v9)
abbrev i2 (d : Dev nD) : Buf (Elt F) (i2Loc d) := V1 m d (Proc.devRef .tc main_v10)
/-- The call's results: in each table the listed rows. -/
abbrev g0 (d : Dev nD) : Buf (Elt F) (o0Loc d) := gath (n := 50000) (by decide) (e128 m d : S50000x128.Idx → F .f32) (i0 m d : S1024.Idx → BitVec 32)
abbrev g1 (d : Dev nD) : Buf (Elt F) (o1Loc d) := gath (n := 50000) (by decide) (w128 m d : S50000x128.Idx → F .f32) (i1 m d : S1024.Idx → BitVec 32)
abbrev g2 (d : Dev nD) : Buf (Elt F) (o2Loc d) := gath (n := 782) (by decide) (b128 m d : S782x128.Idx → F .f32) (i2 m d : S1024.Idx → BitVec 32)

/-- What the run asks of the launch memory: every listed row is a row of its table. -/
def InRange : Prop := ∀ (d : Dev nD) (j : S1024.Idx),
  (i0 m d j : BitVec 32).toNat < 50000 ∧ (i1 m d j : BitVec 32).toNat < 50000 ∧ (i2 m d j : BitVec 32).toNat < 782

/-! ## What the call passes to its tasks -/

/-- The number of the task on vector subcore `i` of SparseCore `c`: which 32 rows are its own. -/
abbrev wk (c : Fin 2) (i : Fin 16) : Fin 32 := ⟨2 * i.val + c.val, by omega⟩

/-- The 1024 rows divide among 32 tiles. -/
theorem odiv : 32 ∣ S1024x128.size 0 := ⟨32, rfl⟩
/-- Rows `32 w` to `32 w + 31` of a result. -/
abbrev orow (w : Fin 32) : Rect S1024x128 := Rect.part (s := S1024x128) (a₀ := 0) odiv w
abbrev oRowSet (w : Fin 32) : Finset S1024x128.Idx := ((View.whole (main_v11_0_scv : Ref sig .scVector)).slice (orow w)).set
/-- Task `w`'s read share of an operand. -/
abbrev xq (w : Fin 32) : PosShare TreeShare := ShareLeaves.leaf 5 fullShare w

/-- A task's read shares of the six operands … -/
abbrev shares (d : Dev nD) (w : Fin 32) : sProp 𝕄 :=
  iprop((e128Loc d ↦{xq w} e128 m d) ∗ (w128Loc d ↦{xq w} w128 m d) ∗ (b128Loc d ↦{xq w} b128 m d)
    ∗ (i0Loc d ↦{xq w} i0 m d) ∗ (i1Loc d ↦{xq w} i1 m d) ∗ (i2Loc d ↦{xq w} i2 m d))
/-- … and its rows of the three results. -/
abbrev rows3 (d : Dev nD) (w : Fin 32) (f0 : Buf (Elt F) (o0Loc d)) (f1 : Buf (Elt F) (o1Loc d)) (f2 : Buf (Elt F) (o2Loc d)) : sProp 𝕄 :=
  iprop((o0Loc d ↦[oRowSet w]{fullShare} f0) ∗ (o1Loc d ↦[oRowSet w]{fullShare} f1) ∗ (o2Loc d ↦[oRowSet w]{fullShare} f2))
/-- What a task starts from … -/
abbrev goW (d : Dev nD) (w : Fin 32) : sProp 𝕄 :=
  iprop(shares m d w ∗ rows3 d w (V1 m d (Proc.devRef .tc main_v11_0)) (V1 m d (Proc.devRef .tc main_v11_1)) (V1 m d (Proc.devRef .tc main_v11_2)))
/-- … and what it brings back: its rows hold the listed rows. -/
abbrev tdW (d : Dev nD) (w : Fin 32) : sProp 𝕄 := iprop(shares m d w ∗ rows3 d w (g0 m d) (g1 m d) (g2 m d))

/-- A SparseCore carries what its sixteen tasks carry. -/
def P : (K (F := F)).Pay (nD := nD) (Val := Elt F) (Name := ℕ) (U := UU) where
  st := fun q d c => match q with | 0 => bigSep Finset.univ fun i : Fin 16 => goW m d (wk (Fin.cast nCore_zero c) i)
  dn := fun q d c => match q with | 0 => bigSep Finset.univ fun i : Fin 16 => tdW m d (wk (Fin.cast nCore_zero c) i)
  go := fun q d c i => match q with | 0 => goW m d (wk (Fin.cast nCore_zero c) (Fin.cast nSub_zero i))
  td := fun q d c i => match q with | 0 => tdW m d (wk (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wk (Fin.cast nCore_zero c) i)))
  dn q d c := match q with
    | 0 => (inferInstance : BI.Storable (upEmb : UEmb _ 𝕄) (bigSep Finset.univ fun i : Fin 16 => tdW m d (wk (Fin.cast nCore_zero c) i)))
  go q d c i := match q with
    | 0 => (inferInstance : BI.Storable (upEmb : UEmb _ 𝕄) (goW m d (wk (Fin.cast nCore_zero c) (Fin.cast nSub_zero i))))
  td q d c i := match q with
    | 0 => (inferInstance : BI.Storable (upEmb : UEmb _ 𝕄) (tdW m d (wk (Fin.cast nCore_zero c) (Fin.cast nSub_zero i))))

end Cert.Proof.Run

end
-- ==== Proof.Tile.lean ====
/-
  One task of the SparseCore call: three lists of row numbers fetched, three indirect gathers issued together and waited
  for, three blocks of rows written out. Proved once at a symbolic (SparseCore, vector subcore), with the values: the
  task's rows of each result hold the rows of the table that its part of the list names.
-/
module

public import proofs.«01_k».proof.Proof.Setup

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

variable (m : (ℓ : Loc nD τ sig) → Buf (Elt F) ℓ)
variable (d : Dev nD) (L : grid0.Coords)

/-! ## The task's place and its views -/

abbrev cV : Fin τ.nSC := (L 0).castLE hcore0
abbrev jV : Fin τ.nSub := (L 1).castLE hsub0
/-- The vector subcore at grid point `L`. -/
abbrev VT : Thread nD τ := V d (cV L) (jV L)
/-- Two cores, … -/
theorem bound_zero : grid0.bound 0 = 2 := rfl
/-- … of sixteen subcores. -/
theorem bound_one : grid0.bound 1 = 16 := rfl
/-- Its task's number. -/
abbrev wL : Fin 32 := wk (Fin.cast bound_zero (L 0)) (Fin.cast bound_one (L 1))

abbrev mE : Memref sig .scVector .hbm S50000x128 .f32 := Memref.whole main_v2_scv
abbrev mW : Memref sig .scVector .hbm S50000x128 .f32 := Memref.whole main_v5_scv
abbrev mB : Memref sig .scVector .hbm S782x128 .f32 := Memref.whole main_v7_scv
abbrev mI0 : Memref sig .scVector .hbm S1024 .i32 := Memref.whole main_v8_scv
abbrev mI1 : Memref sig .scVector .hbm S1024 .i32 := Memref.whole main_v9_scv
abbrev mI2 : Memref sig .scVector .hbm S1024 .i32 := Memref.whole main_v10_scv
abbrev mO0 : Memref sig .scVector .hbm S1024x128 .f32 := Memref.whole main_v11_0_scv
abbrev mO1 : Memref sig .scVector .hbm S1024x128 .f32 := Memref.whole main_v11_1_scv
abbrev mO2 : Memref sig .scVector .hbm S1024x128 .f32 := Memref.whole main_v11_2_scv
abbrev mS0 : Memref sig .scVector .vmem S32 .i32 := Memref.whole cc0_scratch0
abbrev mS1 : Memref sig .scVector .vmem S32 .i32 := Memref.whole cc0_scratch1
abbrev mS2 : Memref sig .scVector .vmem S32 .i32 := Memref.whole cc0_scratch2
abbrev mR0 : Memref sig .scVector .vmem S32x128 .f32 := Memref.whole cc0_scratch3
abbrev mR1 : Memref sig .scVector .vmem S32x128 .f32 := Memref.whole cc0_scratch4
abbrev mR2 : Memref sig .scVector .vmem S32x128 .f32 := Memref.whole cc0_scratch5

/-- The task's part of a list, and its rows of a result, as the program addresses them. -/
abbrev irowK : Rect S1024 := Rect.unit (s := S1024) (k0_off1 L) S32.size (k0_off1_inb L)
abbrev orowK : Rect S1024x128 := Rect.unit (s := S1024x128) (k0_off2 L) S32x128.size (k0_off2_inb L)
abbrev mO0K : Memref sig .scVector .hbm S32x128 .f32 := mO0.slice (orowK L) (fun _ => rfl)
abbrev mO1K : Memref sig .scVector .hbm S32x128 .f32 := mO1.slice (orowK L) (fun _ => rfl)
abbrev mO2K : Memref sig .scVector .hbm S32x128 .f32 := mO2.slice (orowK L) (fun _ => rfl)
/-- A table, as the program hands it to the gather. -/
abbrev mEK : Memref sig .scVector .hbm S50000x128 .f32 := mE.slice (Rect.unit (s := S50000x128) ![0, 0] S50000x128.size inb_S50000x128_S50000x128_0_0) (fun _ => rfl)
abbrev mWK : Memref sig .scVector .hbm S50000x128 .f32 := mW.slice (Rect.unit (s := S50000x128) ![0, 0] S50000x128.size inb_S50000x128_S50000x128_0_0) (fun _ => rfl)
abbrev mBK : Memref sig .scVector .hbm S782x128 .f32 := mB.slice (Rect.unit (s := S782x128) ![0, 0] S782x128.size inb_S782x128_S782x128_0_0) (fun _ => rfl)

omit [FloatOps F] in
/-- The rows as the program addresses them are block `wL L`. -/
theorem orowK_eq : orowK L = orow (wL L) := by
  unfold orowK orow Rect.part Rect.block
  congr 1 <;> funext a
  · rw [k0_off2_eq]
    match a with
    | 0 =>
      have hw : (wL L).val = 2 * (L 1).val + (L 0).val := rfl
      show 64 * (L 1).val + 32 * (L 0).val = (wL L).val * 32
      rw [hw]; omega
    | 1 => simp [Shape.partIx, Shape.partSize]
  · match a with
    | 0 => simp [Shape.partSize]
    | 1 => simp [Shape.partSize]

omit [FloatOps F] in
/-- The rows that a tile writes of the first output are the tile's, … -/
theorem set_mO0K : (mO0K L).view.set = oRowSet (wL L) := by
  show (mO0.view.slice (orowK L)).set = (mO0.view.slice (orow (wL L))).set
  exact orowK_eq L ▸ rfl
omit [FloatOps F] in
/-- … and of the second, … -/
theorem set_mO1K : (mO1K L).view.set = oRowSet (wL L) := by
  show (mO1.view.slice (orowK L)).set = (mO0.view.slice (orow (wL L))).set
  exact orowK_eq L ▸ rfl
omit [FloatOps F] in
/-- … and of the third. -/
theorem set_mO2K : (mO2K L).view.set = oRowSet (wL L) := by
  show (mO2.view.slice (orowK L)).set = (mO0.view.slice (orow (wL L))).set
  exact orowK_eq L ▸ rfl

omit [FloatOps F] in
/-- A tile's part of the first output, as the program slices it, … -/
theorem pts_mO0K (f : Buf (Elt F) (o0Loc d)) :
    ((mO0K L).view.loc (VT d L) ↦[(mO0K L).view.set]{fullShare} f : sProp 𝕄) = o0Loc d ↦[oRowSet (wL L)]{fullShare} f := by
  rw [set_mO0K]
omit [FloatOps F] in
/-- … of the second, … -/
theorem pts_mO1K (f : Buf (Elt F) (o1Loc d)) :
    ((mO1K L).view.loc (VT d L) ↦[(mO1K L).view.set]{fullShare} f : sProp 𝕄) = o1Loc d ↦[oRowSet (wL L)]{fullShare} f := by
  rw [set_mO1K]
omit [FloatOps F] in
/-- … of the third. -/
theorem pts_mO2K (f : Buf (Elt F) (o2Loc d)) :
    ((mO2K L).view.loc (VT d L) ↦[(mO2K L).view.set]{fullShare} f : sProp 𝕄) = o2Loc d ↦[oRowSet (wL L)]{fullShare} f := by
  rw [set_mO2K]

/-! ## The task's own semaphores and buffers -/

abbrev cell (s : DmaSem sig) : GSem nD τ sig := (VT d L, .dma s)
/-- The nine DMA semaphores that the task uses, in a fixed order. -/
abbrev semList : List (DmaSem sig) :=
  [cc0_scratch6.sem, cc0_scratch7.sem, cc0_scratch8.sem, cc0_scoped0.sem, cc0_scoped1.sem, cc0_scoped2.sem, cc0_scoped3.sem, cc0_scoped4.sem, cc0_scoped5.sem]

omit [FloatOps F] in
/-- A semaphore of the task is one of the vector subcore's own cells. -/
theorem cell_mem (s : DmaSem sig) (h : (SemLoc.dma s : SemLoc sig).isScoped .scVector = true) : cell d L s ∈ ownCells (VT d L) :=
  mem_ownCells.mpr ⟨rfl, h⟩
omit [FloatOps F] in
/-- A tile's semaphores are different cells. -/
theorem cell_ne {s s' : DmaSem sig} (h : s ≠ s') : cell d L s ≠ cell d L s' := fun e => h (by simpa [cell] using e)

/-- What is left of the subcore's own cells beside the task's nine. -/
abbrev restCells : Finset (GSem nD τ sig) :=
  (((((((((ownCells (VT d L)).erase (cell d L cc0_scratch6.sem)).erase (cell d L cc0_scratch7.sem)).erase (cell d L cc0_scratch8.sem)).erase
    (cell d L cc0_scoped0.sem)).erase (cell d L cc0_scoped1.sem)).erase (cell d L cc0_scoped2.sem)).erase (cell d L cc0_scoped3.sem)).erase
    (cell d L cc0_scoped4.sem)).erase (cell d L cc0_scoped5.sem)

omit [FloatOps F] in
/-- The nine semaphores at zero are among the subcore's own at zero. -/
theorem ownSems0_V :
    (ownSems0 (VT d L) : sProp 𝕄)
      = iprop(semVal (cell d L cc0_scratch6.sem) 0 ∗ semVal (cell d L cc0_scratch7.sem) 0 ∗ semVal (cell d L cc0_scratch8.sem) 0
          ∗ semVal (cell d L cc0_scoped0.sem) 0 ∗ semVal (cell d L cc0_scoped1.sem) 0 ∗ semVal (cell d L cc0_scoped2.sem) 0
          ∗ semVal (cell d L cc0_scoped3.sem) 0 ∗ semVal (cell d L cc0_scoped4.sem) 0 ∗ semVal (cell d L cc0_scoped5.sem) 0
          ∗ bigSep (restCells d L) fun g => semVal g 0) := by
  unfold SparseCore.Cfg.ownSems0
  have hm (s : DmaSem sig) (h : (SemLoc.dma s : SemLoc sig).isScoped .scVector = true) := cell_mem d L s h
  have hn {s s' : DmaSem sig} (h : s ≠ s') := cell_ne d L h
  rw [SparseCore.bigSep_erase' (hm cc0_scratch6.sem (by decide)),
    SparseCore.bigSep_erase' (i := cell d L cc0_scratch7.sem) (by simp only [Finset.mem_erase]; exact ⟨hn (by decide), hm _ (by decide)⟩),
    SparseCore.bigSep_erase' (i := cell d L cc0_scratch8.sem) (by simp only [Finset.mem_erase]; exact ⟨hn (by decide), hn (by decide), hm _ (by decide)⟩),
    SparseCore.bigSep_erase' (i := cell d L cc0_scoped0.sem) (by simp only [Finset.mem_erase]; exact ⟨hn (by decide), hn (by decide), hn (by decide), hm _ (by decide)⟩),
    SparseCore.bigSep_erase' (i := cell d L cc0_scoped1.sem) (by simp only [Finset.mem_erase]; exact ⟨hn (by decide), hn (by decide), hn (by decide), hn (by decide), hm _ (by decide)⟩),
    SparseCore.bigSep_erase' (i := cell d L cc0_scoped2.sem) (by simp only [Finset.mem_erase]; exact ⟨hn (by decide), hn (by decide), hn (by decide), hn (by decide), hn (by decide), hm _ (by decide)⟩),
    SparseCore.bigSep_erase' (i := cell d L cc0_scoped3.sem) (by simp only [Finset.mem_erase]; exact ⟨hn (by decide), hn (by decide), hn (by decide), hn (by decide), hn (by decide), hn (by decide), hm _ (by decide)⟩),
    SparseCore.bigSep_erase' (i := cell d L cc0_scoped4.sem) (by simp only [Finset.mem_erase]; exact ⟨hn (by decide), hn (by decide), hn (by decide), hn (by decide), hn (by decide), hn (by decide), hn (by decide), hm _ (by decide)⟩),
    SparseCore.bigSep_erase' (i := cell d L cc0_scoped5.sem) (by simp only [Finset.mem_erase]; exact ⟨hn (by decide), hn (by decide), hn (by decide), hn (by decide), hn (by decide), hn (by decide), hn (by decide), hn (by decide), hm _ (by decide)⟩)]

abbrev dref (b : Ref sig .scVector) : DevRef τ sig := (Proc.scVector (cV L) (jV L)).devRef b

omit [FloatOps F] in
/-- A tile's buffers are different. -/
theorem dref_ne {b b' : Ref sig .scVector} (h : b ≠ b') : dref L b ≠ dref L b' := fun e => h (Proc.devRef_injective _ e)

/-- What is left of the subcore's own buffers beside the task's six. -/
abbrev restRefs : Finset (DevRef τ sig) :=
  ((((((ownRefs (τ := τ) (.scVector (cV L) (jV L))).erase (dref L cc0_scratch0)).erase (dref L cc0_scratch1)).erase (dref L cc0_scratch2)).erase
    (dref L cc0_scratch3)).erase (dref L cc0_scratch4)).erase (dref L cc0_scratch5)

omit [FloatOps F] in
/-- The task's six scratch buffers are among the subcore's own. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f)
          ∗ (∃ f, (VT d L).loc cc0_scratch3 ↦{fullShare} f) ∗ (∃ f, (VT d L).loc cc0_scratch4 ↦{fullShare} f) ∗ (∃ f, (VT d L).loc cc0_scratch5 ↦{fullShare} f)
          ∗ bigSep (restRefs L) fun b => iprop(∃ f, ((d, b) : Loc nD τ sig) ↦{fullShare} f)) := by
  unfold SparseCore.Cfg.ownBufs
  have hm (b : Ref sig .scVector) (h : (dref L b).owner = .proc (Proc.scVector (cV L) (jV L))) : dref L b ∈ ownRefs (τ := τ) (.scVector (cV L) (jV L)) :=
    SparseCore.Cfg.mem_ownRefs_of_owner (p := Proc.scVector (cV L) (jV L)) (b := dref L b) h
  have hn {b b' : Ref sig .scVector} (h : b ≠ b') := dref_ne L h
  refine (SparseCore.bigSep_erase' (hm cc0_scratch0 rfl)).trans ?_
  rw [SparseCore.bigSep_erase' (i := dref L cc0_scratch1) (by simp only [Finset.mem_erase]; exact ⟨hn (by decide), hm _ rfl⟩),
    SparseCore.bigSep_erase' (i := dref L cc0_scratch2) (by simp only [Finset.mem_erase]; exact ⟨hn (by decide), hn (by decide), hm _ rfl⟩),
    SparseCore.bigSep_erase' (i := dref L cc0_scratch3) (by simp only [Finset.mem_erase]; exact ⟨hn (by decide), hn (by decide), hn (by decide), hm _ rfl⟩),
    SparseCore.bigSep_erase' (i := dref L cc0_scratch4) (by simp only [Finset.mem_erase]; exact ⟨hn (by decide), hn (by decide), hn (by decide), hn (by decide), hm _ rfl⟩),
    SparseCore.bigSep_erase' (i := dref L cc0_scratch5) (by simp only [Finset.mem_erase]; exact ⟨hn (by decide), hn (by decide), hn (by decide), hn (by decide), hn (by decide), hm _ rfl⟩)]

/-! ## The values -/

/-- A list's part as its fetch lands in the list's scratch buffer. -/
abbrev part0 : S32.Idx → BitVec 32 := (mI0.slice (irowK L) (fun _ => rfl)).view.read (Elt F) (i0 m d)
abbrev part1 : S32.Idx → BitVec 32 := (mI1.slice (irowK L) (fun _ => rfl)).view.read (Elt F) (i1 m d)
abbrev part2 : S32.Idx → BitVec 32 := (mI2.slice (irowK L) (fun _ => rfl)).view.read (Elt F) (i2 m d)

/-- Where a row of a tile lies in the output. -/
theorem orowK_emb0 (x : S32x128.Idx) : ((orowK L).emb x 0).val = 64 * (L 1).val + 32 * (L 0).val + (x 0).val := by
  show k0_off2 L 0 + 1 * (x 0).val = _
  rw [k0_off2_eq, Nat.one_mul]; rfl
omit [FloatOps F] in
/-- The lanes stay. -/
theorem orowK_emb1 (x : S32x128.Idx) : (orowK L).emb x 1 = x 1 := by
  refine Fin.ext ?_
  show k0_off2 L 1 + 1 * (x 1).val = _
  rw [k0_off2_eq, Nat.one_mul]; exact Nat.zero_add _

/-- The list's entry for row `x 0` of the task's block. -/
theorem irowK_emb (x : S32.Idx) (y : S32x128.Idx) (h : (x 0).val = (y 0).val) : (irowK L).emb x = ix1 (n := 1024) ((orowK L).emb y 0) := by
  rw [eq_ix1 ((irowK L).emb x)]
  congr 1
  refine Fin.ext ?_
  rw [orowK_emb0, ← h]
  show k0_off1 L 0 + 1 * (x 0).val = _
  rw [k0_off1_eq, Nat.one_mul]; rfl

/-- The tile's part of the sources' packed rows names rows of the table, … -/
theorem inb0 (h : InRange m) : ∀ x, (mS0.view.read (Elt F) (part0 m d L) x : BitVec 32).toNat < S50000x128.size gathers_S50000x128_S32x128.axis := by
  intro x
  simp only [Memref.view_whole, View.read_whole]
  rw [show ∀ j, part0 m d L j = i0 m d ((mI0.slice (irowK L) (fun _ => rfl)).view.emb j) from fun j => (View.read_apply _ _).trans (cast_eq _ _)]
  exact (h d _).1
/-- … its part of the targets' packed rows too, … -/
theorem inb1 (h : InRange m) : ∀ x, (mS1.view.read (Elt F) (part1 m d L) x : BitVec 32).toNat < S50000x128.size gathers_S50000x128_S32x128.axis := by
  intro x
  simp only [Memref.view_whole, View.read_whole]
  rw [show ∀ j, part1 m d L j = i1 m d ((mI1.slice (irowK L) (fun _ => rfl)).view.emb j) from fun j => (View.read_apply _ _).trans (cast_eq _ _)]
  exact (h d _).2.1
/-- … and of the rows of the bias. -/
theorem inb2 (h : InRange m) : ∀ x, (mS2.view.read (Elt F) (part2 m d L) x : BitVec 32).toNat < S782x128.size gathers_S782x128_S32x128.axis := by
  intro x
  simp only [Memref.view_whole, View.read_whole]
  rw [show ∀ j, part2 m d L j = i2 m d ((mI2.slice (irowK L) (fun _ => rfl)).view.emb j) from fun j => (View.read_apply _ _).trans (cast_eq _ _)]
  exact (h d _).2.2

/-- The fetch leaves the list's part in its buffer. -/
theorem held_part0 (fs : Buf (Elt F) ((VT d L).loc cc0_scratch0)) (pay : S32.Idx → Elt F .i32) (hpay : pay = part0 m d L) :
    (mS0.view.loc (VT d L) ↦{fullShare} View.write (Elt F) mS0.view fs pay Finset.univ : sProp 𝕄)
      = mS0.view.loc (VT d L) ↦[mS0.view.set]{fullShare} part0 m d L := by
  subst hpay
  rw [show mS0.view.set = Finset.univ from View.set_whole _]
  exact congrArg (fun f => (mS0.view.loc (VT d L) ↦{fullShare} f : sProp 𝕄)) (View.write_whole_univ _ _ _)
omit [FloatOps F] in
/-- A row buffer held whole is its view held: the first, … -/
theorem held_row0 (fr : Buf (Elt F) ((VT d L).loc cc0_scratch3)) :
    (mR0.view.loc (VT d L) ↦{fullShare} fr : sProp 𝕄) = mR0.view.loc (VT d L) ↦[mR0.view.set]{fullShare} fr := by
  rw [show mR0.view.set = Finset.univ from View.set_whole _]

/-- The fetch leaves the list's part in its buffer. -/
theorem held_part1 (fs : Buf (Elt F) ((VT d L).loc cc0_scratch1)) (pay : S32.Idx → Elt F .i32) (hpay : pay = part1 m d L) :
    (mS1.view.loc (VT d L) ↦{fullShare} View.write (Elt F) mS1.view fs pay Finset.univ : sProp 𝕄)
      = mS1.view.loc (VT d L) ↦[mS1.view.set]{fullShare} part1 m d L := by
  subst hpay
  rw [show mS1.view.set = Finset.univ from View.set_whole _]
  exact congrArg (fun f => (mS1.view.loc (VT d L) ↦{fullShare} f : sProp 𝕄)) (View.write_whole_univ _ _ _)
omit [FloatOps F] in
/-- … the second, … -/
theorem held_row1 (fr : Buf (Elt F) ((VT d L).loc cc0_scratch4)) :
    (mR1.view.loc (VT d L) ↦{fullShare} fr : sProp 𝕄) = mR1.view.loc (VT d L) ↦[mR1.view.set]{fullShare} fr := by
  rw [show mR1.view.set = Finset.univ from View.set_whole _]

/-- The fetch leaves the list's part in its buffer. -/
theorem held_part2 (fs : Buf (Elt F) ((VT d L).loc cc0_scratch2)) (pay : S32.Idx → Elt F .i32) (hpay : pay = part2 m d L) :
    (mS2.view.loc (VT d L) ↦{fullShare} View.write (Elt F) mS2.view fs pay Finset.univ : sProp 𝕄)
      = mS2.view.loc (VT d L) ↦[mS2.view.set]{fullShare} part2 m d L := by
  subst hpay
  rw [show mS2.view.set = Finset.univ from View.set_whole _]
  exact congrArg (fun f => (mS2.view.loc (VT d L) ↦{fullShare} f : sProp 𝕄)) (View.write_whole_univ _ _ _)
omit [FloatOps F] in
/-- … and the third. -/
theorem held_row2 (fr : Buf (Elt F) ((VT d L).loc cc0_scratch5)) :
    (mR2.view.loc (VT d L) ↦{fullShare} fr : sProp 𝕄) = mR2.view.loc (VT d L) ↦[mR2.view.set]{fullShare} fr := by
  rw [show mR2.view.set = Finset.univ from View.set_whole _]

/-- An index buffer whose view is held is held whole: the first, … -/
theorem part_held0 :
    (mS0.view.loc (VT d L) ↦[mS0.view.set]{fullShare} part0 m d L : sProp 𝕄) = (VT d L).loc cc0_scratch0 ↦{fullShare} part0 m d L := by
  rw [show mS0.view.set = Finset.univ from View.set_whole _]
/-- … the second, … -/
theorem part_held1 :
    (mS1.view.loc (VT d L) ↦[mS1.view.set]{fullShare} part1 m d L : sProp 𝕄) = (VT d L).loc cc0_scratch1 ↦{fullShare} part1 m d L := by
  rw [show mS1.view.set = Finset.univ from View.set_whole _]
/-- … and the third. -/
theorem part_held2 :
    (mS2.view.loc (VT d L) ↦[mS2.view.set]{fullShare} part2 m d L : sProp 𝕄) = (VT d L).loc cc0_scratch2 ↦{fullShare} part2 m d L := by
  rw [show mS2.view.set = Finset.univ from View.set_whole _]

/-- One gather's payload: the rows of the table that the task's part of the list names. -/
theorem payload_eq {n : ℕ} (hn0 : 0 < n) (hg : (⟨2, ![n, 128]⟩ : Shape).Gathers 0 S32x128) (tab : (⟨2, ![n, 128]⟩ : Shape).Idx → Elt F .f32)
    (ix : S1024.Idx → BitVec 32) (idx : S32.Idx → Elt F .i32) (hidx : ∀ x, idx x = ix ((irowK L).emb x))
    (hn : S32.numel = S32x128.size hg.axis') (hin : ∀ x, (idx x : BitVec 32).toNat < (⟨2, ![n, 128]⟩ : Shape).size hg.axis) (x : S32x128.Idx) :
    SparseCore.gatherPayload hg tab (SparseCore.rows idx hn hin) x = gath hn0 tab ix ((orowK L).emb x) := by
  unfold SparseCore.gatherPayload gath
  congr 1
  refine (eq_ix2 _).trans ?_
  congr 1
  · refine Fin.ext ?_
    have h0 : hg.idx (SparseCore.rows idx hn hin) x 0 = SparseCore.rows idx hn hin (x 0) := Shape.Gathers.idx_axis hg _ x
    rw [h0]
    show (idx (S32.rowMajor.symm ((x 0).cast hn.symm)) : BitVec 32).toNat = _
    have hk : (S32.rowMajor.symm ((x 0).cast hn.symm)) = ix1 (n := 32) (x 0) := by
      rw [Equiv.symm_apply_eq]
      refine Fin.ext ?_
      exact (Shape.rowMajor_val_one (ix1 (n := 32) (x 0))).symm
    have hlt := hin (S32.rowMajor.symm ((x 0).cast hn.symm))
    rw [hk] at hlt ⊢
    rw [hidx, irowK_emb L (ix1 (n := 32) (x 0)) x rfl] at hlt ⊢
    exact (Nat.mod_eq_of_lt hlt).symm
  · refine Fin.ext ?_
    rw [orowK_emb1]
    exact Shape.Gathers.idx_of_ne hg _ x 1 Nat.one_ne_zero

omit [FloatOps F] in
/-- A write through a whole slice of a view is a write through the view. -/
theorem writes_all {κ : Kind} {sp : Space} {s : Shape} {e : EltTy} (v : View sig κ sp s e) (f : v.ty.Contents (Elt F)) (pay : s.Idx → Elt F e) (x : s.Idx) :
    v.writes (Elt F) f [⟨Rect.whole s, pay⟩] (v.emb x) = v.write (Elt F) f pay Finset.univ (v.emb x) := by
  have h : v.read (Elt F) (v.writes (Elt F) f [⟨Rect.whole s, pay⟩]) x = v.read (Elt F) (v.write (Elt F) f pay Finset.univ) x := by
    rw [View.read_write_univ]
    exact View.read_writes_cons_hit v f (Rect.whole s) pay [] x x (Rect.emb_whole_apply s x)
  exact (cast_inj _).mp h

/-- The task's rows of result 1, in its row buffer. -/
abbrev block0 : S32x128.Idx → Elt F .f32 := fun x => g0 m d ((orowK L).emb x)
/-- The gather leaves them there … -/
theorem gathered_row0 (fr : Buf (Elt F) ((VT d L).loc cc0_scratch3)) (hn) (hin) :
    (mR0.view.loc (VT d L) ↦[mR0.view.set]{fullShare} View.write (Elt F) mR0.view fr
        (SparseCore.gatherPayload gathers_S50000x128_S32x128 (mEK.view.read (Elt F) (e128 m d)) (SparseCore.rows (mS0.view.read (Elt F) (part0 m d L)) hn hin)) Finset.univ : sProp 𝕄)
      = mR0.view.loc (VT d L) ↦{fullShare} block0 m d L := by
  rw [show mR0.view.set = Finset.univ from View.set_whole _]
  refine congrArg (fun f => (mR0.view.loc (VT d L) ↦{fullShare} f : sProp 𝕄)) ((View.write_whole_univ _ _ _).trans ?_)
  funext x
  refine (payload_eq (F := F) L (n := 50000) (by decide) _ _ (i0 m d) _ ?_ _ _ x).trans ?_
  · intro x
    simp only [Memref.view_whole, View.read_whole]
    exact (View.read_apply _ _).trans (cast_eq _ _)
  · refine congrArg (fun t => gath (n := 50000) (by decide) t (i0 m d : S1024.Idx → BitVec 32) ((orowK L).emb x)) ?_
    funext y
    refine ((View.read_apply _ _).trans (cast_eq _ _)).trans ?_
    refine congrArg (e128 m d) ?_
    funext a; refine Fin.ext ?_
    match a with
    | 0 => show 0 + 1 * (y 0).val = _; omega
    | 1 => show 0 + 1 * (y 1).val = _; omega
/-- … and the write-out puts them in the result's rows. -/
theorem written_row0 (f : Buf (Elt F) (o0Loc d)) (pay : S32x128.Idx → Elt F .f32) (hpay : pay = mR0.view.read (Elt F) (block0 m d L)) :
    ((mO0K L).view.loc (VT d L) ↦[(mO0K L).view.set]{fullShare} (mO0K L).view.writes (Elt F) f [⟨Rect.whole S32x128, pay⟩] : sProp 𝕄)
      = o0Loc d ↦[oRowSet (wL L)]{fullShare} g0 m d := by
  subst hpay
  rw [← pts_mO0K]
  refine pointsTo_congr fun y hy => ?_
  obtain ⟨x, -, rfl⟩ := Finset.mem_map.mp hy
  refine (writes_all (F := F) (mO0K L).view f _ x).trans ?_
  refine (View.write_emb_of_mem _ _ (Finset.mem_univ x)).trans ((cast_eq _ _).trans ?_)
  simp only [Memref.view_whole, View.read_whole]
  rfl

/-- The task's rows of result 2, in its row buffer. -/
abbrev block1 : S32x128.Idx → Elt F .f32 := fun x => g1 m d ((orowK L).emb x)
/-- The gather leaves them there … -/
theorem gathered_row1 (fr : Buf (Elt F) ((VT d L).loc cc0_scratch4)) (hn) (hin) :
    (mR1.view.loc (VT d L) ↦[mR1.view.set]{fullShare} View.write (Elt F) mR1.view fr
        (SparseCore.gatherPayload gathers_S50000x128_S32x128 (mWK.view.read (Elt F) (w128 m d)) (SparseCore.rows (mS1.view.read (Elt F) (part1 m d L)) hn hin)) Finset.univ : sProp 𝕄)
      = mR1.view.loc (VT d L) ↦{fullShare} block1 m d L := by
  rw [show mR1.view.set = Finset.univ from View.set_whole _]
  refine congrArg (fun f => (mR1.view.loc (VT d L) ↦{fullShare} f : sProp 𝕄)) ((View.write_whole_univ _ _ _).trans ?_)
  funext x
  refine (payload_eq (F := F) L (n := 50000) (by decide) _ _ (i1 m d) _ ?_ _ _ x).trans ?_
  · intro x
    simp only [Memref.view_whole, View.read_whole]
    exact (View.read_apply _ _).trans (cast_eq _ _)
  · refine congrArg (fun t => gath (n := 50000) (by decide) t (i1 m d : S1024.Idx → BitVec 32) ((orowK L).emb x)) ?_
    funext y
    refine ((View.read_apply _ _).trans (cast_eq _ _)).trans ?_
    refine congrArg (w128 m d) ?_
    funext a; refine Fin.ext ?_
    match a with
    | 0 => show 0 + 1 * (y 0).val = _; omega
    | 1 => show 0 + 1 * (y 1).val = _; omega
/-- … and the write-out puts them in the result's rows. -/
theorem written_row1 (f : Buf (Elt F) (o1Loc d)) (pay : S32x128.Idx → Elt F .f32) (hpay : pay = mR1.view.read (Elt F) (block1 m d L)) :
    ((mO1K L).view.loc (VT d L) ↦[(mO1K L).view.set]{fullShare} (mO1K L).view.writes (Elt F) f [⟨Rect.whole S32x128, pay⟩] : sProp 𝕄)
      = o1Loc d ↦[oRowSet (wL L)]{fullShare} g1 m d := by
  subst hpay
  rw [← pts_mO1K]
  refine pointsTo_congr fun y hy => ?_
  obtain ⟨x, -, rfl⟩ := Finset.mem_map.mp hy
  refine (writes_all (F := F) (mO1K L).view f _ x).trans ?_
  refine (View.write_emb_of_mem _ _ (Finset.mem_univ x)).trans ((cast_eq _ _).trans ?_)
  simp only [Memref.view_whole, View.read_whole]
  rfl

/-- The task's rows of result 3, in its row buffer. -/
abbrev block2 : S32x128.Idx → Elt F .f32 := fun x => g2 m d ((orowK L).emb x)
/-- The gather leaves them there … -/
theorem gathered_row2 (fr : Buf (Elt F) ((VT d L).loc cc0_scratch5)) (hn) (hin) :
    (mR2.view.loc (VT d L) ↦[mR2.view.set]{fullShare} View.write (Elt F) mR2.view fr
        (SparseCore.gatherPayload gathers_S782x128_S32x128 (mBK.view.read (Elt F) (b128 m d)) (SparseCore.rows (mS2.view.read (Elt F) (part2 m d L)) hn hin)) Finset.univ : sProp 𝕄)
      = mR2.view.loc (VT d L) ↦{fullShare} block2 m d L := by
  rw [show mR2.view.set = Finset.univ from View.set_whole _]
  refine congrArg (fun f => (mR2.view.loc (VT d L) ↦{fullShare} f : sProp 𝕄)) ((View.write_whole_univ _ _ _).trans ?_)
  funext x
  refine (payload_eq (F := F) L (n := 782) (by decide) _ _ (i2 m d) _ ?_ _ _ x).trans ?_
  · intro x
    simp only [Memref.view_whole, View.read_whole]
    exact (View.read_apply _ _).trans (cast_eq _ _)
  · refine congrArg (fun t => gath (n := 782) (by decide) t (i2 m d : S1024.Idx → BitVec 32) ((orowK L).emb x)) ?_
    funext y
    refine ((View.read_apply _ _).trans (cast_eq _ _)).trans ?_
    refine congrArg (b128 m d) ?_
    funext a; refine Fin.ext ?_
    match a with
    | 0 => show 0 + 1 * (y 0).val = _; omega
    | 1 => show 0 + 1 * (y 1).val = _; omega
/-- … and the write-out puts them in the result's rows. -/
theorem written_row2 (f : Buf (Elt F) (o2Loc d)) (pay : S32x128.Idx → Elt F .f32) (hpay : pay = mR2.view.read (Elt F) (block2 m d L)) :
    ((mO2K L).view.loc (VT d L) ↦[(mO2K L).view.set]{fullShare} (mO2K L).view.writes (Elt F) f [⟨Rect.whole S32x128, pay⟩] : sProp 𝕄)
      = o2Loc d ↦[oRowSet (wL L)]{fullShare} g2 m d := by
  subst hpay
  rw [← pts_mO2K]
  refine pointsTo_congr fun y hy => ?_
  obtain ⟨x, -, rfl⟩ := Finset.mem_map.mp hy
  refine (writes_all (F := F) (mO2K L).view f _ x).trans ?_
  refine (View.write_emb_of_mem _ _ (Finset.mem_univ x)).trans ((cast_eq _ _).trans ?_)
  simp only [Memref.view_whole, View.read_whole]
  rfl

set_option maxHeartbeats 4000000 in
/-- The task at grid point `L` of device `d`, from its shares and its rows at any contents to its rows holding the listed
    rows of the tables. -/
theorem tile_body (hF : (K (F := F)).Facts) (hR : InRange m) (O : CellTallies nD τ sig (HIx 1)) (W : Waits sig (HIx 1)) (hO : ∀ g, O g none = 0) :
    iprop(levAts (K (F := F)).L (K (F := F)).lev ∗ emp ∗ goW m d (wL L)
        ∗ scopedBufs (VT d L) ∗ scopedSems0 (VT d L) ∗ owes (VT d L) O W)
      ⊢ wp frame (wpE (defs₀ (F := F)) 𝒱₀ (VT d L) none) Set.univ
          (cc0_k L mE (Memref.isWhole_whole _) mW (Memref.isWhole_whole _) mB (Memref.isWhole_whole _)
            mI0 (Memref.isWhole_whole _) mI1 (Memref.isWhole_whole _) mI2 (Memref.isWhole_whole _)
            mO0 (Memref.isWhole_whole _) mO1 (Memref.isWhole_whole _) mO2 (Memref.isWhole_whole _)
            mS0 (Memref.isWhole_whole _) mS1 (Memref.isWhole_whole _) mS2 (Memref.isWhole_whole _)
            mR0 (Memref.isWhole_whole _) mR1 (Memref.isWhole_whole _) mR2 (Memref.isWhole_whole _)
            cc0_scratch6 cc0_scratch7 cc0_scratch8 cc0_scoped0 cc0_scoped1 cc0_scoped2 cc0_scoped3 cc0_scoped4 cc0_scoped5)
          fun _ => iprop(tdW m d (wL L)
            ∗ scopedBufs (VT d L) ∗ scopedSems0 (VT d L)
            ∗ ∃ W', ⌜∀ p ∈ W', p ∈ W ∨ p.2 = none⌝ ∗ owes (VT d L) O W') := by
  simp only [cc0_k_eq_skeleton]; unfold cc0_k_skel; simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨⟨He, Hw, Hb, Hi0, Hi1, Hi2⟩, ⟨Ho0, Ho1, Ho2⟩⟩,
    ⟨⟨%fs0, Hs0⟩, ⟨%fs1, Hs1⟩, ⟨%fs2, Hs2⟩, ⟨%fr0, Hr0⟩, ⟨%fr1, Hr1⟩, ⟨%fr2, Hr2⟩, Hbufs⟩,
    ⟨Hm6, Hm7, Hm8, Hc0, Hc1, Hc2, Hc3, Hc4, Hc5, Hsems⟩, HO⟩
  ihave Hmw := (show levAts (K (F := F)).L (K (F := F)).lev ⊢ Transfers.MayWaits (VT d L) (default : HIx 1) O from
    (K (F := F)).mayWaits_none (thr := VT d L) hO) $$ Hlv
  ihave Ho0' := (Entails.of_eq (pts_mO0K (F := F) d L _).symm) $$ Ho0
  ihave Ho1' := (Entails.of_eq (pts_mO1K (F := F) d L _).symm) $$ Ho1
  ihave Ho2' := (Entails.of_eq (pts_mO2K (F := F) d L _).symm) $$ Ho2
  ihave He' := (show (e128Loc d ↦{xq (wL L)} e128 m d : sProp 𝕄) ⊢ (mE.view.loc (VT d L) ↦{xq (wL L)} e128 m d) from BI.Entails.refl _) $$ He
  ihave Hw' := (show (w128Loc d ↦{xq (wL L)} w128 m d : sProp 𝕄) ⊢ (mW.view.loc (VT d L) ↦{xq (wL L)} w128 m d) from BI.Entails.refl _) $$ Hw
  ihave Hb' := (show (b128Loc d ↦{xq (wL L)} b128 m d : sProp 𝕄) ⊢ (mB.view.loc (VT d L) ↦{xq (wL L)} b128 m d) from BI.Entails.refl _) $$ Hb
  ihave Hi0' := (show (i0Loc d ↦{xq (wL L)} i0 m d : sProp 𝕄) ⊢ (mI0.view.loc (VT d L) ↦{xq (wL L)} i0 m d) from BI.Entails.refl _) $$ Hi0
  ihave Hi1' := (show (i1Loc d ↦{xq (wL L)} i1 m d : sProp 𝕄) ⊢ (mI1.view.loc (VT d L) ↦{xq (wL L)} i1 m d) from BI.Entails.refl _) $$ Hi1
  ihave Hi2' := (show (i2Loc d ↦{xq (wL L)} i2 m d : sProp 𝕄) ⊢ (mI2.view.loc (VT d L) ↦{xq (wL L)} i2 m d) from BI.Entails.refl _) $$ Hi2
  ihave Hs0' := (show ((VT d L).loc cc0_scratch0 ↦{fullShare} fs0 : sProp 𝕄) ⊢ (mS0.view.loc (VT d L) ↦{fullShare} fs0) from BI.Entails.refl _) $$ Hs0
  ihave Hs1' := (show ((VT d L).loc cc0_scratch1 ↦{fullShare} fs1 : sProp 𝕄) ⊢ (mS1.view.loc (VT d L) ↦{fullShare} fs1) from BI.Entails.refl _) $$ Hs1
  ihave Hs2' := (show ((VT d L).loc cc0_scratch2 ↦{fullShare} fs2 : sProp 𝕄) ⊢ (mS2.view.loc (VT d L) ↦{fullShare} fs2) from BI.Entails.refl _) $$ Hs2
  ihave Hr0' := (show ((VT d L).loc cc0_scratch3 ↦{fullShare} fr0 : sProp 𝕄) ⊢ (mR0.view.loc (VT d L) ↦{fullShare} fr0) from BI.Entails.refl _) $$ Hr0
  ihave Hr1' := (show ((VT d L).loc cc0_scratch4 ↦{fullShare} fr1 : sProp 𝕄) ⊢ (mR1.view.loc (VT d L) ↦{fullShare} fr1) from BI.Entails.refl _) $$ Hr1
  ihave Hr2' := (show ((VT d L).loc cc0_scratch5 ↦{fullShare} fr2 : sProp 𝕄) ⊢ (mR2.view.loc (VT d L) ↦{fullShare} fr2) from BI.Entails.refl _) $$ Hr2
  sl_exec
  ihave Hs0r := (Entails.of_eq (held_part0 (F := F) m d L fs0 (tile_body.sl.dma0 m d L) rfl)) $$ Hs0'
  ihave Hs1r := (Entails.of_eq (held_part1 (F := F) m d L fs1 (tile_body.sl.dma0_1 m d L) rfl)) $$ Hs1'
  ihave Hs2r := (Entails.of_eq (held_part2 (F := F) m d L fs2 (tile_body.sl.dma0_2 m d L) rfl)) $$ Hs2'
  ihave Hes := (pointsTo_split_subset (q := xq (wL L)) (f := e128 m d) (S := Finset.univ) (Finset.subset_univ mEK.view.set)).1 $$ He'
  icases Hes with ⟨Hes, Her⟩
  ihave Hws := (pointsTo_split_subset (q := xq (wL L)) (f := w128 m d) (S := Finset.univ) (Finset.subset_univ mWK.view.set)).1 $$ Hw'
  icases Hws with ⟨Hws, Hwr⟩
  ihave Hbs := (pointsTo_split_subset (q := xq (wL L)) (f := b128 m d) (S := Finset.univ) (Finset.subset_univ mBK.view.set)).1 $$ Hb'
  icases Hbs with ⟨Hbs, Hbr⟩
  ihave Hr0s := (Entails.of_eq (held_row0 (F := F) d L fr0)) $$ Hr0'
  ihave Hr1s := (Entails.of_eq (held_row1 (F := F) d L fr1)) $$ Hr1'
  ihave Hr2s := (Entails.of_eq (held_row2 (F := F) d L fr2)) $$ Hr2'
  have hN0 : ∀ h : S50000x128.Gathers 0 S32x128, ∑ j, (mR0.slice (S32x128.rowRect h.axis' j) (S32x128.stride_rowRect h.axis' j)).view.dmaCredit
      = mR0.view.dmaCredit := by decide
  have hN1 : ∀ h : S50000x128.Gathers 0 S32x128, ∑ j, (mR1.slice (S32x128.rowRect h.axis' j) (S32x128.stride_rowRect h.axis' j)).view.dmaCredit
      = mR1.view.dmaCredit := by decide
  have hN2 : ∀ h : S782x128.Gathers 0 S32x128, ∑ j, (mR2.slice (S32x128.rowRect h.axis' j) (S32x128.stride_rowRect h.axis' j)).view.dmaCredit
      = mR2.view.dmaCredit := by decide
  iapply (SparseCore.wp_indirectGatherLocal countersEmb 𝒱₀ (VT d L) none (hg := gathers_S50000x128_S32x128) (default : HIx 1)
      mR0.view.dmaCredit (hN0 _) (by decide) (inb0 m d L hR)) $$ [Hes Hr0s Hs0r Hm6]
  · isplitl [Hes]; · iexact Hes
    isplitl [Hr0s]; · iexact Hr0s
    isplitl [Hs0r]; · iexact Hs0r
    iexact Hm6
  iintro Hf0
  sl_exec
  iapply (SparseCore.wp_indirectGatherLocal countersEmb 𝒱₀ (VT d L) none (hg := gathers_S50000x128_S32x128) (default : HIx 1)
      mR1.view.dmaCredit (hN1 _) (by decide) (inb1 m d L hR)) $$ [Hws Hr1s Hs1r Hm7]
  · isplitl [Hws]; · iexact Hws
    isplitl [Hr1s]; · iexact Hr1s
    isplitl [Hs1r]; · iexact Hs1r
    iexact Hm7
  iintro Hf1
  sl_exec
  iapply (SparseCore.wp_indirectGatherLocal countersEmb 𝒱₀ (VT d L) none (hg := gathers_S782x128_S32x128) (default : HIx 1)
      mR2.view.dmaCredit (hN2 _) (by decide) (inb2 m d L hR)) $$ [Hbs Hr2s Hs2r Hm8]
  · isplitl [Hbs]; · iexact Hbs
    isplitl [Hr2s]; · iexact Hr2s
    isplitl [Hs2r]; · iexact Hs2r
    iexact Hm8
  iintro Hf2
  sl_exec
  iapply (Transfers.wp_waitLocalO countersEmb 𝒱₀ (VT d L) none (default : HIx 1) (rfl : mR0.view.dmaCredit = _)) $$ [Hf0 HO]
  · isplitl [Hf0]; · iexact Hf0
    isplitl [HO]; · iexact HO
    iapply (Transfers.MayWaits.elim (SemLoc.dma cc0_scratch6.sem)) $$ Hmw
  iintro ⟨⟨Hr0', Hes, Hs0'⟩, Hm6, HO⟩
  sl_exec
  iapply (Transfers.wp_waitLocalO countersEmb 𝒱₀ (VT d L) none (default : HIx 1) (rfl : mR1.view.dmaCredit = _)) $$ [Hf1 HO]
  · isplitl [Hf1]; · iexact Hf1
    isplitl [HO]; · iexact HO
    iapply (Transfers.MayWaits.elim (SemLoc.dma cc0_scratch7.sem)) $$ Hmw
  iintro ⟨⟨Hr1', Hws, Hs1'⟩, Hm7, HO⟩
  sl_exec
  iapply (Transfers.wp_waitLocalO countersEmb 𝒱₀ (VT d L) none (default : HIx 1) (rfl : mR2.view.dmaCredit = _)) $$ [Hf2 HO]
  · isplitl [Hf2]; · iexact Hf2
    isplitl [HO]; · iexact HO
    iapply (Transfers.MayWaits.elim (SemLoc.dma cc0_scratch8.sem)) $$ Hmw
  iintro ⟨⟨Hr2', Hbs, Hs2'⟩, Hm8, HO⟩
  ihave He' := (pointsTo_split_subset (q := xq (wL L)) (f := e128 m d) (S := Finset.univ) (Finset.subset_univ mEK.view.set)).2 $$ [Hes Her]; · isplitl [Hes] <;> iassumption
  ihave Hw' := (pointsTo_split_subset (q := xq (wL L)) (f := w128 m d) (S := Finset.univ) (Finset.subset_univ mWK.view.set)).2 $$ [Hws Hwr]; · isplitl [Hws] <;> iassumption
  ihave Hb' := (pointsTo_split_subset (q := xq (wL L)) (f := b128 m d) (S := Finset.univ) (Finset.subset_univ mBK.view.set)).2 $$ [Hbs Hbr]; · isplitl [Hbs] <;> iassumption
  ihave Hr0n := (Entails.of_eq (gathered_row0 (F := F) m d L fr0 rfl (inb0 m d L hR))) $$ Hr0'
  ihave Hr1n := (Entails.of_eq (gathered_row1 (F := F) m d L fr1 rfl (inb1 m d L hR))) $$ Hr1'
  ihave Hr2n := (Entails.of_eq (gathered_row2 (F := F) m d L fr2 rfl (inb2 m d L hR))) $$ Hr2'
  sl_exec
  sl_step
  isplitl [He' Hw' Hb' Hi0' Hi1' Hi2' Ho0' Ho1' Ho2']
  · isplitl [He' Hw' Hb' Hi0' Hi1' Hi2']
    · isplitl [He']; · iexact He'
      isplitl [Hw']; · iexact Hw'
      isplitl [Hb']; · iexact Hb'
      isplitl [Hi0']; · iexact Hi0'
      isplitl [Hi1']; · iexact Hi1'
      iexact Hi2'
    isplitl [Ho0']; · iapply (Entails.of_eq (written_row0 (F := F) m d L _ (tile_body.sl.dma0_3 m d L) rfl)); iexact Ho0'
    isplitl [Ho1']; · iapply (Entails.of_eq (written_row1 (F := F) m d L _ (tile_body.sl.dma0_4 m d L) rfl)); iexact Ho1'
    iapply (Entails.of_eq (written_row2 (F := F) m d L _ (tile_body.sl.dma0_5 m d L) rfl)); iexact Ho2'
  isplitl [Hs0' Hs1' Hs2' Hr0n Hr1n Hr2n Hbufs]
  · isplitl [Hs0']; · iexists _; iapply (Entails.of_eq (part_held0 (F := F) m d L)); iexact Hs0'
    isplitl [Hs1']; · iexists _; iapply (Entails.of_eq (part_held1 (F := F) m d L)); iexact Hs1'
    isplitl [Hs2']; · iexists _; iapply (Entails.of_eq (part_held2 (F := F) m d L)); iexact Hs2'
    isplitl [Hr0n]; · iexists _; iexact Hr0n
    isplitl [Hr1n]; · iexists _; iexact Hr1n
    isplitl [Hr2n]; · iexists _; iexact Hr2n
    iexact Hbufs
  isplitl [Hm6 Hm7 Hm8 Hc0 Hc1 Hc2 Hc3 Hc4 Hc5 Hsems]
  · isplitl [Hm6]; · iexact Hm6
    isplitl [Hm7]; · iexact Hm7
    isplitl [Hm8]; · iexact Hm8
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap; · iexact HO
  ipureintro; intro p hp
  simp only [Finset.mem_insert] at hp
  rcases hp with hp | hp | hp | hp | hp | hp | hp | hp | hp | hp
  on_goal 10 => exact .inl hp
  all_goals exact .inr (hp ▸ rfl)

/-! ## The obligation of the call -/

/-- Grid point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The program that a tile runs. -/
theorem defs₀_vector (c : Fin τ.nSC) (s : Fin τ.nSub) :
    defs₀ (F := F) (.scVector c s) 0 ()
      = SparseCore.onTile hcore0 hsub0 (fun c s => cc0_k (coordsV c s)
          mE (Memref.isWhole_whole _) mW (Memref.isWhole_whole _) mB (Memref.isWhole_whole _)
          mI0 (Memref.isWhole_whole _) mI1 (Memref.isWhole_whole _) mI2 (Memref.isWhole_whole _)
          mO0 (Memref.isWhole_whole _) mO1 (Memref.isWhole_whole _) mO2 (Memref.isWhole_whole _)
          mS0 (Memref.isWhole_whole _) mS1 (Memref.isWhole_whole _) mS2 (Memref.isWhole_whole _)
          mR0 (Memref.isWhole_whole _) mR1 (Memref.isWhole_whole _) mR2 (Memref.isWhole_whole _)
          cc0_scratch6 cc0_scratch7 cc0_scratch8 cc0_scoped0 cc0_scoped1 cc0_scoped2 cc0_scoped3 cc0_scoped4 cc0_scoped5) ⟨⟩ c s := rfl

omit [FloatOps F] in
/-- A task that recorded no wait of a call recorded none but, possibly, this call's. -/
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets what the launch asks of it. -/
theorem tileObl (hF : (K (F := F)).Facts) (hR : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hR O W hO).trans (wp_mono frame _ _ fun _ => waits_post)

end Cert.Proof.Run

end
-- ==== Proof.Body.lean ====
/-
  The TensorCore kernel's body at one grid point, run with its values: what it computes from a block of the output
  layer, the block of biases, the latent rows and the running sums.
-/
module

public import proofs.«01_k».proof.Proof.Setup
import Idealize.ShloMosaic.Lib.VecWindow

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig (HIx 1) (Elt F) ℕ UU ℕ

/-- A memref's buffer on the TensorCore of device `c`: its contents, and it held whole. -/
abbrev Bf (c : Dev nD) {sp : Space} {S : Shape} {e : EltTy} (M : Memref sig .tc sp S e) : Type := Buf (Elt F) (M.view.loc (c : Thread nD τ))
/-- A whole buffer with its contents. -/
abbrev pt (c : Dev nD) {sp : Space} {S : Shape} {e : EltTy} (M : Memref sig .tc sp S e) (f : Bf (F := F) c M) : sProp 𝕄 :=
  M.view.loc (c : Thread nD τ) ↦{fullShare} f

/-! ## What a point computes -/

/-- Rows `o` to `o + 999` of a block of the output layer. -/
abbrev chunk (o : ℕ) (ho : o + 1000 ≤ 4000) (x : S4000x64.Idx → F .f32) : S1000x64.Idx → F .f32 :=
  fun y => x (ix2 (n0 := 4000) (n1 := 64) ⟨o + (y 0).val, by have := (y 0).isLt; change (y 0).val < 1000 at this; omega⟩ (y 1))

/-- The running sums after a point: the point's four chunks of exponentials added, lane by lane. -/
def addBlock (lat : S1024x64.Idx → F .f32) (wt : S4000x64.Idx → F .f32) (bias : S1x1x4000.Idx → F .f32) (acc : S1024x128.Idx → F .f32) : S1024x128.Idx → F .f32 :=
  let v4 := k1_pay6 (F := F) lat
  let v7 := k1_pay7 (F := F) bias
  let a1 := k1_pay8 (F := F) lat bias (chunk 0 (by decide) wt) acc
  let a2 := k1_pay9 (F := F) v4 v7 (chunk 1000 (by decide) wt) a1
  let w3 := chunk (F := F) 2000 (by decide) wt
  let a3 := k1_pay13 (F := F) (k1_pay10 v4 v7 w3) (k1_pay11 v4 v7 w3) (k1_pay12 v4 v7 w3) a2
  let w4 := chunk (F := F) 3000 (by decide) wt
  k1_pay1 (F := F) (k1_pay15 v4 v7 w4) k1_pay16 (k1_pay17 v4 v7 w4) k1_pay18 a3

/-- A load of a thousand rows from row `o` reads the chunk of what the block reads. -/
theorem readAt_chunk {sp : Space} (M : Memref sig .tc sp S4000x64 .f32) (f : M.view.ty.Contents (Elt F)) (o : ℕ) (ho : o + 1000 ≤ 4000)
    (inb : ∀ a, (![o, 0] : Fin 2 → ℕ) a + (![1000, 64] : Fin 2 → ℕ) a ≤ S4000x64.size a) :
    M.view.readAt (Elt F) (Rect.unit (s := S4000x64) ![o, 0] ![1000, 64] inb).toLoadRect f = chunk o ho (M.view.read (Elt F) f) := by
  funext y
  refine congrArg (M.view.read (Elt F) f) (funext fun a => Fin.ext ?_)
  match a with
  | 0 => show o + 1 * (y 0).val = o + (y 0).val; omega
  | 1 => show 0 + 1 * (y 1).val = (y 1).val; omega

/-- Loads of a whole buffer at offset zero read what the buffer reads. -/
theorem rd_1024x64 {sp : Space} (M : Memref sig .tc sp S1024x64 .f32) (f : M.view.ty.Contents (Elt F)) (inb) :
    M.view.readAt (Elt F) (Rect.unit (s := S1024x64) ![0, 0] ![1024, 64] inb).toLoadRect f = M.view.read (Elt F) f := View.readAt_full _ _ _
/-- Reading a whole buffer gives its contents: an array of 1024 × 128, … -/
theorem rd_1024x128 {sp : Space} (M : Memref sig .tc sp S1024x128 .f32) (f : M.view.ty.Contents (Elt F)) (inb) :
    M.view.readAt (Elt F) (Rect.unit (s := S1024x128) ![0, 0] ![1024, 128] inb).toLoadRect f = M.view.read (Elt F) f := View.readAt_full _ _ _
/-- … of 1 × 1 × 4000, … -/
theorem rd_1x1x4000 {sp : Space} (M : Memref sig .tc sp S1x1x4000 .f32) (f : M.view.ty.Contents (Elt F)) (inb) :
    M.view.readAt (Elt F) (Rect.unit (s := S1x1x4000) ![0, 0, 0] ![1, 1, 4000] inb).toLoadRect f = M.view.read (Elt F) f := View.readAt_full _ _ _
/-- … of 1024 × 1, … -/
theorem rd_1024x1 {sp : Space} (M : Memref sig .tc sp S1024x1 .i32) (f : M.view.ty.Contents (Elt F)) (inb) :
    M.view.readAt (Elt F) (Rect.unit (s := S1024x1) ![0, 0] ![1024, 1] inb).toLoadRect f = M.view.read (Elt F) f := View.readAt_full _ _ _
/-- … of 64 × 64, … -/
theorem rd_64x64 {sp : Space} (M : Memref sig .tc sp S64x64 .f32) (f : M.view.ty.Contents (Elt F)) (inb) :
    M.view.readAt (Elt F) (Rect.unit (s := S64x64) ![0, 0] ![64, 64] inb).toLoadRect f = M.view.read (Elt F) f := View.readAt_full _ _ _
/-- … of 1 × 64. -/
theorem rd_1x64 {sp : Space} (M : Memref sig .tc sp S1x64 .f32) (f : M.view.ty.Contents (Elt F)) (inb) :
    M.view.readAt (Elt F) (Rect.unit (s := S1x64) ![0, 0] ![1, 64] inb).toLoadRect f = M.view.read (Elt F) f := View.readAt_full _ _ _

/-- A load of a whole buffer after a store of the whole buffer reads what was stored. -/
theorem rc_1024x128 {sp : Space} (M : Memref sig .tc sp S1024x128 .f32) (inb inb') (w L) :
    M.view.readCov (Val := Elt F) (⟨Rect.unit (s := S1024x128) ![0, 0] ![1024, 128] inb', w⟩ :: L) (Rect.unit (s := S1024x128) ![0, 0] ![1024, 128] inb).toLoadRect = w :=
  View.readCov_full _ _ _ _ _
/-- Reading back what was written to a whole buffer of 1024 × 64. -/
theorem rc_1024x64 {sp : Space} (M : Memref sig .tc sp S1024x64 .f32) (inb inb') (w L) :
    M.view.readCov (Val := Elt F) (⟨Rect.unit (s := S1024x64) ![0, 0] ![1024, 64] inb', w⟩ :: L) (Rect.unit (s := S1024x64) ![0, 0] ![1024, 64] inb).toLoadRect = w :=
  View.readCov_full _ _ _ _ _

variable (c : Dev nD) (i : grid1.Coords)
  (M0 : Memref sig .tc .vmem S1024x128 .f32) (h0 : M0.IsWhole) (M1 : Memref sig .tc .vmem S1024x1 .i32) (h1 : M1.IsWhole)
  (M2 : Memref sig .tc .vmem S64x64 .f32) (h2 : M2.IsWhole) (M3 : Memref sig .tc .vmem S1x64 .f32) (h3 : M3.IsWhole)
  (M4 : Memref sig .tc .vmem S4000x64 .f32) (h4 : M4.IsWhole) (M5 : Memref sig .tc .vmem S1x1x4000 .f32) (h5 : M5.IsWhole)
  (M6 : Memref sig .tc .vmem S1024x128 .f32) (h6 : M6.IsWhole) (M7 : Memref sig .tc .vmem S1024x1 .i32) (h7 : M7.IsWhole)
  (M8 : Memref sig .tc .vmem S1024x128 .f32) (h8 : M8.IsWhole) (M9 : Memref sig .tc .vmem S1024x64 .f32) (h9 : M9.IsWhole)
  (M10 : Memref sig .tc .vmem S1x1 .f32) (h10 : M10.IsWhole) (M11 : Memref sig .tc .vmem S1024x64 .f32) (h11 : M11.IsWhole)
  (M12 : Memref sig .tc .vmem S1024x128 .f32) (h12 : M12.IsWhole)

set_option maxHeartbeats 4000000 in
/-- A point between the first and the last: the running sums take its block in. -/
theorem run_mid (hc1 : ¬ k1_cond1 i = 1#1) (hc2 : ¬ k1_cond2 i = 1#1)
    (f4 : Bf (F := F) c M4) (f5 : Bf (F := F) c M5) (f11 : Bf (F := F) c M11) (f12 : Bf (F := F) c M12) (E : Set ℕ) (Q : PUnit → sProp 𝕄) :
    iprop(pt c M4 f4 ∗ pt c M5 f5 ∗ pt c M11 f11 ∗ pt c M12 f12
        ∗ (iprop(pt c M4 f4 ∗ pt c M5 f5 ∗ pt c M11 f11 ∗ ∃ g, ⌜M12.view.read (Elt F) g = addBlock (M11.view.read (Elt F) f11) (M4.view.read (Elt F) f4) (M5.view.read (Elt F) f5) (M12.view.read (Elt F) f12)⌝ ∗ pt c M12 g) -∗ Q ⟨⟩))
      ⊢ wp frame (wpE (defs₀ (F := F)) 𝒱₀ c none) E
          (cc1__tc_body i M0 h0 M1 h1 M2 h2 M3 h3 M4 h4 M5 h5 M6 h6 M7 h7 M8 h8 M9 h9 M10 h10 M11 h11 M12 h12) Q := by
  simp only [cc1__tc_body_eq_skeleton]; unfold cc1__tc_body_skel
  simp only [k1_part3_eq_skeleton, k1_part4_eq_skeleton, k1_part5_eq_skeleton]; unfold k1_part3_skel k1_part4_skel k1_part5_skel
  simp only [hc1, hc2, ↓reduceDIte]
  iintro ⟨H4, H5, H11, H12, Hk⟩
  sl_exec
  sl_step
  iapply Hk
  isplitl [H4]; iexact H4
  isplitl [H5]; iexact H5
  isplitl [H11]; iexact H11
  iexists _
  isplitr
  swap
  iexact H12
  ipureintro
  refine (View.read_writes_full _ _ _ _ _).trans ?_
  dsimp only [run_mid.sl.v138, run_mid.sl.H12_3, run_mid.sl.v104, run_mid.sl.H12_2, run_mid.sl.v70, run_mid.sl.H12_1]
  simp only [rc_1024x128, rd_1024x64, rd_1024x128, rd_1x1x4000, readAt_chunk _ _ 0 (by decide), readAt_chunk _ _ 1000 (by decide),
    readAt_chunk _ _ 2000 (by decide), readAt_chunk _ _ 3000 (by decide)]
  rfl

set_option maxHeartbeats 4000000 in
/-- The first point: the latent rows are computed, kept and put in their window, and the running sums start at zero. -/
theorem run_first (hc1 : k1_cond1 i = 1#1) (hc2 : ¬ k1_cond2 i = 1#1)
    (f0 : Bf (F := F) c M0) (f1 : Bf (F := F) c M1) (f2 : Bf (F := F) c M2) (f3 : Bf (F := F) c M3)
    (f4 : Bf (F := F) c M4) (f5 : Bf (F := F) c M5) (f9 : Bf (F := F) c M9) (f11 : Bf (F := F) c M11) (f12 : Bf (F := F) c M12) (E : Set ℕ) (Q : PUnit → sProp 𝕄) :
    iprop(pt c M0 f0 ∗ pt c M1 f1 ∗ pt c M2 f2 ∗ pt c M3 f3 ∗ pt c M4 f4 ∗ pt c M5 f5 ∗ pt c M9 f9 ∗ pt c M11 f11 ∗ pt c M12 f12
        ∗ (iprop(pt c M0 f0 ∗ pt c M1 f1 ∗ pt c M2 f2 ∗ pt c M3 f3 ∗ pt c M4 f4 ∗ pt c M5 f5
          ∗ (∃ g, ⌜M9.view.read (Elt F) g = k1_pay2 (M0.view.read (Elt F) f0) (M1.view.read (Elt F) f1) (M2.view.read (Elt F) f2) (M3.view.read (Elt F) f3)⌝ ∗ pt c M9 g)
          ∗ (∃ g, ⌜M11.view.read (Elt F) g = k1_pay3 (M0.view.read (Elt F) f0) (M1.view.read (Elt F) f1) (M2.view.read (Elt F) f2) (M3.view.read (Elt F) f3)⌝ ∗ pt c M11 g)
          ∗ ∃ g, ⌜M12.view.read (Elt F) g = addBlock (k1_pay3 (M0.view.read (Elt F) f0) (M1.view.read (Elt F) f1) (M2.view.read (Elt F) f2) (M3.view.read (Elt F) f3))
              (M4.view.read (Elt F) f4) (M5.view.read (Elt F) f5) (k1_pay4 (F := F))⌝ ∗ pt c M12 g) -∗ Q ⟨⟩))
      ⊢ wp frame (wpE (defs₀ (F := F)) 𝒱₀ c none) E
          (cc1__tc_body i M0 h0 M1 h1 M2 h2 M3 h3 M4 h4 M5 h5 M6 h6 M7 h7 M8 h8 M9 h9 M10 h10 M11 h11 M12 h12) Q := by
  simp only [cc1__tc_body_eq_skeleton]; unfold cc1__tc_body_skel
  simp only [k1_part3_eq_skeleton, k1_part4_eq_skeleton, k1_part5_eq_skeleton]; unfold k1_part3_skel k1_part4_skel k1_part5_skel
  simp only [k1_part1_eq_skeleton]; unfold k1_part1_skel
  simp only [hc1, hc2, ↓reduceDIte]
  iintro ⟨H0, H1, H2, H3, H4, H5, H9, H11, H12, Hk⟩
  sl_exec
  sl_step
  iapply Hk
  isplitl [H0]; iexact H0
  isplitl [H1]; iexact H1
  isplitl [H2]; iexact H2
  isplitl [H3]; iexact H3
  isplitl [H4]; iexact H4
  isplitl [H5]; iexact H5
  isplitl [H9]
  · iexists _
    isplitr
    swap
    iexact H9
    ipureintro
    refine (View.read_writes_full _ _ _ _ _).trans ?_
    simp only [rd_1024x128, rd_1024x1, rd_64x64, rd_1x64]
  isplitl [H11]
  · iexists _
    isplitr
    swap
    iexact H11
    ipureintro
    dsimp only [run_first.sl.H11_1]
    refine (View.read_writes_full _ _ _ _ _).trans ?_
    simp only [rd_1024x128, rd_1024x1, rd_64x64, rd_1x64]
  iexists _
  isplitr
  swap
  iexact H12
  ipureintro
  refine (View.read_writes_full _ _ _ _ _).trans ?_
  dsimp only [run_first.sl.v138, run_first.sl.H12_4, run_first.sl.v104, run_first.sl.H12_3, run_first.sl.v70, run_first.sl.H12_2, run_first.sl.v36, run_first.sl.H12_1,
    run_first.sl.v3, run_first.sl.H11_1]
  simp only [rc_1024x128, rc_1024x64, rd_1024x64, rd_1024x128, rd_1024x1, rd_64x64, rd_1x64, rd_1x1x4000, readAt_chunk _ _ 0 (by decide), readAt_chunk _ _ 1000 (by decide),
    readAt_chunk _ _ 2000 (by decide), readAt_chunk _ _ 3000 (by decide)]
  rfl

set_option maxHeartbeats 4000000 in
/-- The last point: the running sums take its block in, and the loss is computed from them. -/
theorem run_last (hc1 : ¬ k1_cond1 i = 1#1) (hc2 : k1_cond2 i = 1#1)
    (f4 : Bf (F := F) c M4) (f5 : Bf (F := F) c M5) (f6 : Bf (F := F) c M6) (f7 : Bf (F := F) c M7) (f8 : Bf (F := F) c M8)
    (f10 : Bf (F := F) c M10) (f11 : Bf (F := F) c M11) (f12 : Bf (F := F) c M12) (E : Set ℕ) (Q : PUnit → sProp 𝕄) :
    iprop(pt c M4 f4 ∗ pt c M5 f5 ∗ pt c M6 f6 ∗ pt c M7 f7 ∗ pt c M8 f8 ∗ pt c M10 f10 ∗ pt c M11 f11 ∗ pt c M12 f12
        ∗ (iprop(pt c M4 f4 ∗ pt c M5 f5 ∗ pt c M6 f6 ∗ pt c M7 f7 ∗ pt c M8 f8 ∗ pt c M11 f11
          ∗ (∃ g, ⌜M10.view.read (Elt F) g = k1_pay5 (M11.view.read (Elt F) f11) (M6.view.read (Elt F) f6) (M7.view.read (Elt F) f7) (M7.view.read (Elt F) f7) (M8.view.read (Elt F) f8)
              (addBlock (M11.view.read (Elt F) f11) (M4.view.read (Elt F) f4) (M5.view.read (Elt F) f5) (M12.view.read (Elt F) f12))⌝ ∗ pt c M10 g)
          ∗ ∃ g, ⌜M12.view.read (Elt F) g = addBlock (M11.view.read (Elt F) f11) (M4.view.read (Elt F) f4) (M5.view.read (Elt F) f5) (M12.view.read (Elt F) f12)⌝ ∗ pt c M12 g) -∗ Q ⟨⟩))
      ⊢ wp frame (wpE (defs₀ (F := F)) 𝒱₀ c none) E
          (cc1__tc_body i M0 h0 M1 h1 M2 h2 M3 h3 M4 h4 M5 h5 M6 h6 M7 h7 M8 h8 M9 h9 M10 h10 M11 h11 M12 h12) Q := by
  simp only [cc1__tc_body_eq_skeleton]; unfold cc1__tc_body_skel
  simp only [k1_part2_eq_skeleton, k1_part3_eq_skeleton, k1_part4_eq_skeleton, k1_part5_eq_skeleton]; unfold k1_part2_skel k1_part3_skel k1_part4_skel k1_part5_skel
  simp only [hc1, hc2, ↓reduceDIte]
  iintro ⟨H4, H5, H6, H7, H8, H10, H11, H12, Hk⟩
  sl_exec
  sl_step
  iapply Hk
  isplitl [H4]; iexact H4
  isplitl [H5]; iexact H5
  isplitl [H6]; iexact H6
  isplitl [H7]; iexact H7
  isplitl [H8]; iexact H8
  isplitl [H11]; iexact H11
  isplitl [H10]
  · iexists _
    isplitr
    swap
    iexact H10
    ipureintro
    refine (View.read_writes_full _ _ _ _ _).trans ?_
    dsimp only [run_last.sl.v174, run_last.sl.H12_4, run_last.sl.v138, run_last.sl.H12_3, run_last.sl.v104, run_last.sl.H12_2, run_last.sl.v70, run_last.sl.H12_1]
    simp only [rc_1024x128, rd_1024x64, rd_1024x128, rd_1024x1, rd_1x1x4000, readAt_chunk _ _ 0 (by decide), readAt_chunk _ _ 1000 (by decide),
      readAt_chunk _ _ 2000 (by decide), readAt_chunk _ _ 3000 (by decide)]
    rfl
  iexists _
  isplitr
  swap
  iexact H12
  ipureintro
  dsimp only [run_last.sl.H12_4]
  refine (View.read_writes_full _ _ _ _ _).trans ?_
  dsimp only [run_last.sl.v138, run_last.sl.H12_3, run_last.sl.v104, run_last.sl.H12_2, run_last.sl.v70, run_last.sl.H12_1]
  simp only [rc_1024x128, rd_1024x64, rd_1024x128, rd_1024x1, rd_1x1x4000, readAt_chunk _ _ 0 (by decide), readAt_chunk _ _ 1000 (by decide),
    readAt_chunk _ _ 2000 (by decide), readAt_chunk _ _ 3000 (by decide)]
  rfl

end Cert.Proof.Run

end
-- ==== Proof.Region.lean ====
/-
  The TensorCore kernel's region: what its windows and its two scratch buffers hold at each of the 25 points, the
  body obligation at each of them, and the region from any contents of the device's buffers at its entry.
-/
module

public import proofs.«01_k».proof.Proof.Body
public import proofs.«01_k».proof.Proof.Gen.KernelIdeal.Points
public import Idealize.ShloMosaic.Lib.Pipeline.TableIdle
public import Idealize.ShloMosaic.Lib.Pipeline.FrameBody
public import Idealize.ShloMosaic.Lib.Pipeline.RegionsLoop
public import Idealize.ShloMosaic.Lib.Pipeline.Frame

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The grid's conditions -/

/-- The first branch is taken at the first grid step only. -/
theorem cond1_iff : ∀ t : Fin cfg1.N, k1_cond1 (grid1.coords t) = 1#1 ↔ t.val = 0 := by
  show ∀ t : Fin grid1.N, _
  decide +kernel
/-- The second branch is taken at the last grid step only. -/
theorem cond2_iff : ∀ t : Fin cfg1.N, k1_cond2 (grid1.coords t) = 1#1 ↔ t.val = 24 := by
  show ∀ t : Fin grid1.N, _
  decide +kernel

/-- The latent output is left alone at every step but the first. -/
theorem idle9 (t : Fin cfg1.N) : cfg1.idle 9 (cfg1.grid.coords t) = !decide (t.val = 0) := by
  show (!(k1_cond1 (grid1.coords t) == 1#1)) = _
  congr 1
  exact Bool.eq_iff_iff.mpr (by rw [beq_iff_eq, decide_eq_true_iff]; exact cond1_iff t)
/-- The loss is left alone at every step but the last. -/
theorem idle10 (t : Fin cfg1.N) : cfg1.idle 10 (cfg1.grid.coords t) = !decide (t.val = 24) := by
  show (!(k1_cond2 (grid1.coords t) == 1#1)) = _
  congr 1
  exact Bool.eq_iff_iff.mpr (by rw [beq_iff_eq, decide_eq_true_iff]; exact cond2_iff t)
/-- The latent output is written back after the last step. -/
theorem flush9 (t : Fin cfg1.N) : (cfg1.win 9).flush t = decide (t.val = 24) := by
  have ht : t.val < 25 := lt_of_lt_of_eq t.isLt N_1
  exact Bool.eq_iff_iff.mpr (by rw [flush1_9, decide_eq_true_iff]; omega)
/-- So is the loss. -/
theorem flush10 (t : Fin cfg1.N) : (cfg1.win 10).flush t = decide (t.val = 24) := by
  have ht : t.val < 25 := lt_of_lt_of_eq t.isLt N_1
  exact Bool.eq_iff_iff.mpr (by rw [flush1_10, decide_eq_true_iff]; omega)

/-- From the second point on the latent window's buffer is not fresh: the first point stored it and only the last writes it back. -/
theorem fresh9 : ∀ n, n < 24 → Cfg.fresh cfg1 9 (n + 1) = false
  | 0, _ => by
    rw [Cfg.fresh_succ cfg1 9 0 (by rw [show cfg1.N = 25 from N_1]; omega), flush9, idle9]; rfl
  | n + 1, h => by
    rw [Cfg.fresh_succ cfg1 9 (n + 1) (by rw [show cfg1.N = 25 from N_1]; omega), fresh9 n (by omega), flush9, Bool.and_false, Bool.or_false]
    exact decide_eq_false (by show ¬ (n + 1 = 24); omega)

/-! ## The body, over what the buffers read -/

/-- A memref's buffer held whole at contents that read `X`. -/
abbrev holds (c : Dev nD) {sp : Space} {S : Shape} {e : EltTy} (M : Memref sig .tc sp S e) (X : S.Idx → Elt F e) : sProp 𝕄 :=
  iprop(∃ f, ⌜M.view.read (Elt F) f = X⌝ ∗ pt c M f)

/-- Owning a whole buffer with an array as its contents. -/
theorem owns_holds (c : Dev nD) {sp : Space} {S : Shape} {e : EltTy} {M : Memref sig .tc sp S e} (h : M.IsWhole) (X : S.Idx → Elt F e) :
    (owns (c : Thread nD τ) M fullShare X : sProp 𝕄) = holds c M X := by
  unfold owns
  rw [h.set_eq_univ]

section Holds

variable (c : Dev nD) (i : grid1.Coords)
  (M0 : Memref sig .tc .vmem S1024x128 .f32) (h0 : M0.IsWhole) (M1 : Memref sig .tc .vmem S1024x1 .i32) (h1 : M1.IsWhole)
  (M2 : Memref sig .tc .vmem S64x64 .f32) (h2 : M2.IsWhole) (M3 : Memref sig .tc .vmem S1x64 .f32) (h3 : M3.IsWhole)
  (M4 : Memref sig .tc .vmem S4000x64 .f32) (h4 : M4.IsWhole) (M5 : Memref sig .tc .vmem S1x1x4000 .f32) (h5 : M5.IsWhole)
  (M6 : Memref sig .tc .vmem S1024x128 .f32) (h6 : M6.IsWhole) (M7 : Memref sig .tc .vmem S1024x1 .i32) (h7 : M7.IsWhole)
  (M8 : Memref sig .tc .vmem S1024x128 .f32) (h8 : M8.IsWhole) (M9 : Memref sig .tc .vmem S1024x64 .f32) (h9 : M9.IsWhole)
  (M10 : Memref sig .tc .vmem S1x1 .f32) (h10 : M10.IsWhole) (M11 : Memref sig .tc .vmem S1024x64 .f32) (h11 : M11.IsWhole)
  (M12 : Memref sig .tc .vmem S1024x128 .f32) (h12 : M12.IsWhole)

/-- A middle point, over what the buffers read. -/
theorem hold_mid (hc1 : ¬ k1_cond1 i = 1#1) (hc2 : ¬ k1_cond2 i = 1#1)
    (X4 : S4000x64.Idx → Elt F .f32) (X5 : S1x1x4000.Idx → Elt F .f32) (X11 : S1024x64.Idx → Elt F .f32) (X12 : S1024x128.Idx → Elt F .f32) (E : Set ℕ) (Q : PUnit → sProp 𝕄) :
    iprop(holds c M4 X4 ∗ holds c M5 X5 ∗ holds c M11 X11 ∗ holds c M12 X12
        ∗ (iprop(holds c M4 X4 ∗ holds c M5 X5 ∗ holds c M11 X11 ∗ holds c M12 (addBlock X11 X4 X5 X12)) -∗ Q ⟨⟩))
      ⊢ wp frame (wpE (defs₀ (F := F)) 𝒱₀ c none) E
          (cc1__tc_body i M0 h0 M1 h1 M2 h2 M3 h3 M4 h4 M5 h5 M6 h6 M7 h7 M8 h8 M9 h9 M10 h10 M11 h11 M12 h12) Q := by
  iintro ⟨⟨%f4, %e4, H4⟩, ⟨%f5, %e5, H5⟩, ⟨%f11, %e11, H11⟩, ⟨%f12, %e12, H12⟩, Hk⟩
  subst e4 e5 e11 e12
  iapply (run_mid c i M0 h0 M1 h1 M2 h2 M3 h3 M4 h4 M5 h5 M6 h6 M7 h7 M8 h8 M9 h9 M10 h10 M11 h11 M12 h12 hc1 hc2 f4 f5 f11 f12 E Q)
  isplitl [H4]; · iexact H4
  isplitl [H5]; · iexact H5
  isplitl [H11]; · iexact H11
  isplitl [H12]; · iexact H12
  iintro ⟨H4, H5, H11, ⟨%g12, %k12, G12⟩⟩
  iapply Hk
  isplitl [H4]; · iexists f4; isplitr; (· ipureintro; exact rfl); iexact H4
  isplitl [H5]; · iexists f5; isplitr; (· ipureintro; exact rfl); iexact H5
  isplitl [H11]; · iexists f11; isplitr; (· ipureintro; exact rfl); iexact H11
  iexists g12; isplitr; (· ipureintro; exact k12); iexact G12

/-- The first point, over what the buffers read. -/
theorem hold_first (hc1 : k1_cond1 i = 1#1) (hc2 : ¬ k1_cond2 i = 1#1)
    (X0 : S1024x128.Idx → Elt F .f32) (X1 : S1024x1.Idx → Elt F .i32) (X2 : S64x64.Idx → Elt F .f32) (X3 : S1x64.Idx → Elt F .f32) (X4 : S4000x64.Idx → Elt F .f32) (X5 : S1x1x4000.Idx → Elt F .f32) (E : Set ℕ) (Q : PUnit → sProp 𝕄) :
    iprop(holds c M0 X0 ∗ holds c M1 X1 ∗ holds c M2 X2 ∗ holds c M3 X3 ∗ holds c M4 X4 ∗ holds c M5 X5 ∗ (∃ f, pt c M9 f) ∗ (∃ f, pt c M11 f) ∗ (∃ f, pt c M12 f)
        ∗ (iprop(holds c M0 X0 ∗ holds c M1 X1 ∗ holds c M2 X2 ∗ holds c M3 X3 ∗ holds c M4 X4 ∗ holds c M5 X5 ∗ holds c M9 (k1_pay2 X0 X1 X2 X3) ∗ holds c M11 (k1_pay3 X0 X1 X2 X3) ∗ holds c M12 (addBlock (k1_pay3 X0 X1 X2 X3) X4 X5 (k1_pay4 (F := F)))) -∗ Q ⟨⟩))
      ⊢ wp frame (wpE (defs₀ (F := F)) 𝒱₀ c none) E
          (cc1__tc_body i M0 h0 M1 h1 M2 h2 M3 h3 M4 h4 M5 h5 M6 h6 M7 h7 M8 h8 M9 h9 M10 h10 M11 h11 M12 h12) Q := by
  iintro ⟨⟨%f0, %e0, H0⟩, ⟨%f1, %e1, H1⟩, ⟨%f2, %e2, H2⟩, ⟨%f3, %e3, H3⟩, ⟨%f4, %e4, H4⟩, ⟨%f5, %e5, H5⟩, ⟨%f9, H9⟩, ⟨%f11, H11⟩, ⟨%f12, H12⟩, Hk⟩
  subst e0 e1 e2 e3 e4 e5
  iapply (run_first c i M0 h0 M1 h1 M2 h2 M3 h3 M4 h4 M5 h5 M6 h6 M7 h7 M8 h8 M9 h9 M10 h10 M11 h11 M12 h12 hc1 hc2 f0 f1 f2 f3 f4 f5 f9 f11 f12 E Q)
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [H11]; · iexact H11
  isplitl [H12]; · iexact H12
  iintro ⟨H0, H1, H2, H3, H4, H5, ⟨%g9, %k9, G9⟩, ⟨%g11, %k11, G11⟩, ⟨%g12, %k12, G12⟩⟩
  iapply Hk
  isplitl [H0]; · iexists f0; isplitr; (· ipureintro; exact rfl); iexact H0
  isplitl [H1]; · iexists f1; isplitr; (· ipureintro; exact rfl); iexact H1
  isplitl [H2]; · iexists f2; isplitr; (· ipureintro; exact rfl); iexact H2
  isplitl [H3]; · iexists f3; isplitr; (· ipureintro; exact rfl); iexact H3
  isplitl [H4]; · iexists f4; isplitr; (· ipureintro; exact rfl); iexact H4
  isplitl [H5]; · iexists f5; isplitr; (· ipureintro; exact rfl); iexact H5
  isplitl [G9]; · iexists g9; isplitr; (· ipureintro; exact k9); iexact G9
  isplitl [G11]; · iexists g11; isplitr; (· ipureintro; exact k11); iexact G11
  iexists g12; isplitr; (· ipureintro; exact k12); iexact G12

/-- The last point, over what the buffers read. -/
theorem hold_last (hc1 : ¬ k1_cond1 i = 1#1) (hc2 : k1_cond2 i = 1#1)
    (X4 : S4000x64.Idx → Elt F .f32) (X5 : S1x1x4000.Idx → Elt F .f32) (X6 : S1024x128.Idx → Elt F .f32) (X7 : S1024x1.Idx → Elt F .i32) (X8 : S1024x128.Idx → Elt F .f32) (X11 : S1024x64.Idx → Elt F .f32) (X12 : S1024x128.Idx → Elt F .f32) (E : Set ℕ) (Q : PUnit → sProp 𝕄) :
    iprop(holds c M4 X4 ∗ holds c M5 X5 ∗ holds c M6 X6 ∗ holds c M7 X7 ∗ holds c M8 X8 ∗ (∃ f, pt c M10 f) ∗ holds c M11 X11 ∗ holds c M12 X12
        ∗ (iprop(holds c M4 X4 ∗ holds c M5 X5 ∗ holds c M6 X6 ∗ holds c M7 X7 ∗ holds c M8 X8 ∗ holds c M11 X11 ∗ holds c M10 (k1_pay5 X11 X6 X7 X7 X8 (addBlock X11 X4 X5 X12)) ∗ holds c M12 (addBlock X11 X4 X5 X12)) -∗ Q ⟨⟩))
      ⊢ wp frame (wpE (defs₀ (F := F)) 𝒱₀ c none) E
          (cc1__tc_body i M0 h0 M1 h1 M2 h2 M3 h3 M4 h4 M5 h5 M6 h6 M7 h7 M8 h8 M9 h9 M10 h10 M11 h11 M12 h12) Q := by
  iintro ⟨⟨%f4, %e4, H4⟩, ⟨%f5, %e5, H5⟩, ⟨%f6, %e6, H6⟩, ⟨%f7, %e7, H7⟩, ⟨%f8, %e8, H8⟩, ⟨%f10, H10⟩, ⟨%f11, %e11, H11⟩, ⟨%f12, %e12, H12⟩, Hk⟩
  subst e4 e5 e6 e7 e8 e11 e12
  iapply (run_last c i M0 h0 M1 h1 M2 h2 M3 h3 M4 h4 M5 h5 M6 h6 M7 h7 M8 h8 M9 h9 M10 h10 M11 h11 M12 h12 hc1 hc2 f4 f5 f6 f7 f8 f10 f11 f12 E Q)
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  iintro ⟨H4, H5, H6, H7, H8, H11, ⟨%g10, %k10, G10⟩, ⟨%g12, %k12, G12⟩⟩
  iapply Hk
  isplitl [H4]; · iexists f4; isplitr; (· ipureintro; exact rfl); iexact H4
  isplitl [H5]; · iexists f5; isplitr; (· ipureintro; exact rfl); iexact H5
  isplitl [H6]; · iexists f6; isplitr; (· ipureintro; exact rfl); iexact H6
  isplitl [H7]; · iexists f7; isplitr; (· ipureintro; exact rfl); iexact H7
  isplitl [H8]; · iexists f8; isplitr; (· ipureintro; exact rfl); iexact H8
  isplitl [H11]; · iexists f11; isplitr; (· ipureintro; exact rfl); iexact H11
  isplitl [G10]; · iexists g10; isplitr; (· ipureintro; exact k10); iexact G10
  iexists g12; isplitr; (· ipureintro; exact k12); iexact G12

end Holds

/-! ## What the windows and the scratch buffers hold -/

variable (V : (c : Dev nD) → (b : Ref sig .tc) → Buf (Elt F) ((c : Thread nD τ).loc b))

/-- Window `w`'s block at point `t`, as a fetch stages it from the array's contents at entry. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A point by its number. -/
abbrev pnt (n : ℕ) (h : n < 25) : Fin cfg1.N := ⟨n, lt_of_lt_of_eq h N_1.symm⟩

/-- The latent rows, as stored in their window … -/
def latV (c : Dev nD) : S1024x64.Idx → F .f32 :=
  k1_pay2 (iblk V c 0 (pnt 0 (by decide))) (iblk V c 1 (pnt 0 (by decide))) (iblk V c 2 (pnt 0 (by decide))) (iblk V c 3 (pnt 0 (by decide)))
/-- … and as kept in the scratch buffer. -/
def latS (c : Dev nD) : S1024x64.Idx → F .f32 :=
  k1_pay3 (iblk V c 0 (pnt 0 (by decide))) (iblk V c 1 (pnt 0 (by decide))) (iblk V c 2 (pnt 0 (by decide))) (iblk V c 3 (pnt 0 (by decide)))

/-- The running sums after `n` points. -/
def accV (c : Dev nD) : ℕ → S1024x128.Idx → F .f32
  | 0 => k1_pay4 (F := F)
  | n + 1 => if h : n < 25 then addBlock (latS V c) (iblk V c 4 (pnt n h)) (iblk V c 5 (pnt n h)) (accV c n) else accV c n

/-- The loss, as the last point stores it. -/
def lossV (c : Dev nD) : S1x1.Idx → F .f32 :=
  k1_pay5 (latS V c) (iblk V c 6 (pnt 24 (by decide))) (iblk V c 7 (pnt 24 (by decide))) (iblk V c 7 (pnt 24 (by decide))) (iblk V c 8 (pnt 24 (by decide))) (accV V c 25)

/-- The invariant before point `n`: before the first the scratch buffers hold anything, later the latent rows and the running sums. -/
def Φc (c : Dev nD) (n : ℕ) : sProp 𝕄 :=
  if n = 0 then Pipeline.scopedRest (Ix := HIx 1) (Name := ℕ) (U := UU) (Lvl := ℕ) (Val := Elt F) spec1 c
  else iprop(holds c (Memref.whole cc1_scratch0) (latS V c) ∗ holds c (Memref.whole cc1_scratch1) (accV V c n))

/-- The bound kept on the core's recorded waits: none above the level the SparseCore call leaves. -/
abbrev recd (c : Dev nD) : Set (SemLoc sig × HIx 1) := {p | (K (F := F)).lev (SparseCore.T c, p.1) p.2 ≤ 8}

/-- The region's proof data, from the contents `V` at its entry. -/
def dat (c : Dev nD) : Dat τ (Elt F) (HIx 1) ℕ UU ℕ cfg1 c where
  A w := V c (Pipeline.arrRef spec1 w)
  after w t := match w with
    | ⟨0, _⟩ => iblk V c 0 t | ⟨1, _⟩ => iblk V c 1 t | ⟨2, _⟩ => iblk V c 2 t | ⟨3, _⟩ => iblk V c 3 t
    | ⟨4, _⟩ => iblk V c 4 t | ⟨5, _⟩ => iblk V c 5 t | ⟨6, _⟩ => iblk V c 6 t | ⟨7, _⟩ => iblk V c 7 t
    | ⟨8, _⟩ => iblk V c 8 t
    | ⟨9, _⟩ => latV V c
    | ⟨10, _⟩ => lossV V c
  Φ t := Φc V c t.val
  q _ := fullShare
  owed _ := 0
  recorded _ := recd (F := F) c

/-- What the body finds in input block 0: the block fetched for the step. -/
theorem before0 (c : Dev nD) (t d) : (dat V c).before 0 t d = iblk V c 0 t := (dat V c).before_in_eq_fetched 0 rfl (fun _ => rfl) (fun _ _ _ => rfl) (fun _ => rfl) t d
/-- What the body finds in input block 1: the block fetched for the step. -/
theorem before1 (c : Dev nD) (t d) : (dat V c).before 1 t d = iblk V c 1 t := (dat V c).before_in_eq_fetched 1 rfl (fun _ => rfl) (fun _ _ _ => rfl) (fun _ => rfl) t d
/-- What the body finds in input block 2: the block fetched for the step. -/
theorem before2 (c : Dev nD) (t d) : (dat V c).before 2 t d = iblk V c 2 t := (dat V c).before_in_eq_fetched 2 rfl (fun _ => rfl) (fun _ _ _ => rfl) (fun _ => rfl) t d
/-- What the body finds in input block 3: the block fetched for the step. -/
theorem before3 (c : Dev nD) (t d) : (dat V c).before 3 t d = iblk V c 3 t := (dat V c).before_in_eq_fetched 3 rfl (fun _ => rfl) (fun _ _ _ => rfl) (fun _ => rfl) t d
/-- What the body finds in input block 4: the block fetched for the step. -/
theorem before4 (c : Dev nD) (t d) : (dat V c).before 4 t d = iblk V c 4 t := (dat V c).before_in_eq_fetched 4 rfl (fun _ => rfl) (fun _ _ _ => rfl) (fun _ => rfl) t d
/-- What the body finds in input block 5: the block fetched for the step. -/
theorem before5 (c : Dev nD) (t d) : (dat V c).before 5 t d = iblk V c 5 t := (dat V c).before_in_eq_fetched 5 rfl (fun _ => rfl) (fun _ _ _ => rfl) (fun _ => rfl) t d
/-- What the body finds in input block 6: the block fetched for the step. -/
theorem before6 (c : Dev nD) (t d) : (dat V c).before 6 t d = iblk V c 6 t := (dat V c).before_in_eq_fetched 6 rfl (fun _ => rfl) (fun _ _ _ => rfl) (fun _ => rfl) t d
/-- What the body finds in input block 7: the block fetched for the step. -/
theorem before7 (c : Dev nD) (t d) : (dat V c).before 7 t d = iblk V c 7 t := (dat V c).before_in_eq_fetched 7 rfl (fun _ => rfl) (fun _ _ _ => rfl) (fun _ => rfl) t d
/-- What the body finds in input block 8: the block fetched for the step. -/
theorem before8 (c : Dev nD) (t d) : (dat V c).before 8 t d = iblk V c 8 t := (dat V c).before_in_eq_fetched 8 rfl (fun _ => rfl) (fun _ _ _ => rfl) (fun _ => rfl) t d

/-- From the second point on the latent window's buffer holds the latent rows. -/
theorem before9 (c : Dev nD) (t : Fin cfg1.N) (ht : t.val ≠ 0) (d) : (dat V c).before 9 t d = latV V c := by
  have h25 : t.val < 25 := lt_of_lt_of_eq t.isLt N_1
  have h := (dat V c).before_out_traj 9 rfl (fun _ _ => rfl) (fun _ _ _ _ => rfl) t.val t rfl d
  have e : Cfg.fresh cfg1 9 t.val = false := by
    obtain ⟨n, hn⟩ : ∃ n, t.val = n + 1 := ⟨t.val - 1, by omega⟩
    rw [hn]; exact fresh9 n (by omega)
  rw [e, if_neg Bool.false_ne_true] at h
  exact h

/-- Before the first step the scratch arrays hold anything. -/
theorem Φ_zero (c : Dev nD) : Φc V c 0 = iprop((∃ f : Bf (F := F) c (Memref.whole cc1_scratch0), pt c (Memref.whole cc1_scratch0) f)
    ∗ (∃ f : Bf (F := F) c (Memref.whole cc1_scratch1), pt c (Memref.whole cc1_scratch1) f)) := by
  rw [Φc, if_pos rfl, scopedRest1_eq]
/-- Afterwards they hold the latent rows and the accumulated sums. -/
theorem Φ_pos (c : Dev nD) {n : ℕ} (h : n ≠ 0) : Φc V c n = iprop(holds c (Memref.whole cc1_scratch0) (latS V c) ∗ holds c (Memref.whole cc1_scratch1) (accV V c n)) := by
  rw [Φc, if_neg h]

/-- A step adds its block's exponentials to the accumulator. -/
theorem accV_succ (c : Dev nD) (t : Fin cfg1.N) : accV V c (t.val + 1) = addBlock (latS V c) (iblk V c 4 t) (iblk V c 5 t) (accV V c t.val) := by
  have h25 : t.val < 25 := lt_of_lt_of_eq t.isLt N_1
  rw [accV, dif_pos h25]

set_option maxHeartbeats 4000000 in
/-- The body obligation: at the first point, at a middle one, at the last. -/
theorem body_obligation (c : Dev nD) : BodyObligation (dat V c) (defs₀ (F := F)) 𝒱₀ none Set.univ := fun t => by
  have h25 : t.val < 25 := lt_of_lt_of_eq t.isLt N_1
  rw [bigSep_W1, bigSep_W1]
  dsimp only
  simp only [before0, before1, before2, before3, before4, before5, before6, before7, before8,
    show cfg1.idle 0 (cfg1.grid.coords t) = false from rfl,
    show cfg1.idle 1 (cfg1.grid.coords t) = false from rfl,
    show cfg1.idle 2 (cfg1.grid.coords t) = false from rfl,
    show cfg1.idle 3 (cfg1.grid.coords t) = false from rfl,
    show cfg1.idle 4 (cfg1.grid.coords t) = false from rfl,
    show cfg1.idle 5 (cfg1.grid.coords t) = false from rfl,
    show cfg1.idle 6 (cfg1.grid.coords t) = false from rfl,
    show cfg1.idle 7 (cfg1.grid.coords t) = false from rfl,
    show cfg1.idle 8 (cfg1.grid.coords t) = false from rfl,
    owns_holds c (stage_whole1 0 (cfg1.slots t 0)),
    owns_holds c (stage_whole1 1 (cfg1.slots t 1)),
    owns_holds c (stage_whole1 2 (cfg1.slots t 2)),
    owns_holds c (stage_whole1 3 (cfg1.slots t 3)),
    owns_holds c (stage_whole1 4 (cfg1.slots t 4)),
    owns_holds c (stage_whole1 5 (cfg1.slots t 5)),
    owns_holds c (stage_whole1 6 (cfg1.slots t 6)),
    owns_holds c (stage_whole1 7 (cfg1.slots t 7)),
    owns_holds c (stage_whole1 8 (cfg1.slots t 8)),
    owns_holds c (stage_whole1 9 (cfg1.slots t 9)),
    owns_holds c (stage_whole1 10 (cfg1.slots t 10))]
  have i9 : idle1 9 (grid1.coords t) = !decide (t.val = 0) := idle9 t
  have i10 : idle1 10 (grid1.coords t) = !decide (t.val = 24) := idle10 t
  have w9 : (win1 9).flush t = decide (t.val = 24) := flush9 t
  have w10 : (win1 10).flush t = decide (t.val = 24) := flush10 t
  simp only [i9, i10, w9, w10]
  have ho : (dat V c).owesAt none t.succ = (dat V c).owesAt none t.castSucc := rfl
  rw [ho, show (dat V c).Φ t.castSucc = Φc V c t.val from rfl, show (dat V c).Φ t.succ = Φc V c (t.val + 1) from rfl,
    Φ_pos V c (Nat.succ_ne_zero t.val), accV_succ]
  show _ ⊢ wp frame _ Set.univ (bodyAt1 t) _
  by_cases h0 : t.val = 0
  · obtain rfl : t = pnt 0 (by decide) := Fin.ext h0
    rw [show Φc V c (pnt 0 (by decide)).val = Φc V c 0 from rfl, Φ_zero, show accV V c (pnt 0 (by decide)).val = k1_pay4 (F := F) from rfl,
      decide_eq_true h0, show decide ((pnt 0 (by decide)).val = 24) = false from rfl]
    simp only [Bool.not_true, Bool.not_false]
    iintro ⟨⟨⟨%f11, H11⟩, ⟨%f12, H12⟩⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %f9, %k9, H9⟩, H10⟩
    iapply (hold_first _ _ _ _ _ _ _ _ _ _ _ _ _ _ _ _ _ _ _ _ _ _ _ _ _ _ _ _ ((cond1_iff _).mpr h0) (by rw [cond2_iff]; decide) (iblk V c 0 (pnt 0 (by decide))) (iblk V c 1 (pnt 0 (by decide))) (iblk V c 2 (pnt 0 (by decide))) (iblk V c 3 (pnt 0 (by decide))) (iblk V c 4 (pnt 0 (by decide))) (iblk V c 5 (pnt 0 (by decide))) Set.univ _)
    isplitl [H0]; · iexact H0
    isplitl [H1]; · iexact H1
    isplitl [H2]; · iexact H2
    isplitl [H3]; · iexact H3
    isplitl [H4]; · iexact H4
    isplitl [H5]; · iexact H5
    isplitl [H9]; · iexists _; iexact H9
    isplitl [H11]; · iexists _; iexact H11
    isplitl [H12]; · iexists _; iexact H12
    iintro ⟨H0, H1, H2, H3, H4, H5, H9, H11, H12⟩
    isplitl [H11 H12]
    · isplitl [H11]; · iexact H11
      iexact H12
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Φ_pos V c h0, decide_eq_false h0]
    by_cases h24 : t.val = 24
    · obtain rfl : t = pnt 24 (by decide) := Fin.ext h24
      rw [decide_eq_true h24]
      simp only [before9 V c (pnt 24 (by decide)) h0]
      simp only [Bool.not_true, Bool.not_false]
      iintro ⟨⟨H11, H12⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %f10, %k10, H10⟩⟩
      iapply (hold_last _ _ _ _ _ _ _ _ _ _ _ _ _ _ _ _ _ _ _ _ _ _ _ _ _ _ _ _ (by rw [cond1_iff]; exact h0) ((cond2_iff _).mpr h24) (iblk V c 4 (pnt 24 (by decide))) (iblk V c 5 (pnt 24 (by decide))) (iblk V c 6 (pnt 24 (by decide))) (iblk V c 7 (pnt 24 (by decide))) (iblk V c 8 (pnt 24 (by decide))) (latS V c) (accV V c 24) Set.univ _)
      isplitl [H4]; · iexact H4
      isplitl [H5]; · iexact H5
      isplitl [H6]; · iexact H6
      isplitl [H7]; · iexact H7
      isplitl [H8]; · iexact H8
      isplitl [H10]; · iexists _; iexact H10
      isplitl [H11]; · iexact H11
      isplitl [H12]; · iexact H12
      iintro ⟨H4, H5, H6, H7, H8, H11, H10, H12⟩
      isplitl [H11 H12]
      · isplitl [H11]; · iexact H11
        iexact H12
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [decide_eq_false h24]
      simp only [Bool.not_true, Bool.not_false]
      iintro ⟨⟨H11, H12⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (hold_mid _ _ _ _ _ _ _ _ _ _ _ _ _ _ _ _ _ _ _ _ _ _ _ _ _ _ _ _ (by rw [cond1_iff]; exact h0) (by rw [cond2_iff]; exact h24) (iblk V c 4 t) (iblk V c 5 t) (latS V c) (accV V c t.val) Set.univ _)
      isplitl [H4]; · iexact H4
      isplitl [H5]; · iexact H5
      isplitl [H11]; · iexact H11
      isplitl [H12]; · iexact H12
      iintro ⟨H4, H5, H11, H12⟩
      isplitl [H11 H12]
      · isplitl [H11]; · iexact H11
        iexact H12
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-! ## The region, from any contents of the device's buffers -/

/-- The TensorCore's unscoped references. -/
abbrev ucRefs : Finset (DevRef τ sig) := Pipeline.ucRefs τ sig

/-- No call prefetches a table. -/
def adm : (p : Fin 1) → (pcfgs (F := F) p).Adm := fun p => (cfgs p).toPCfg_adm

/-- The proof data, call by call. -/
def pdats : (p : Fin 1) → (c : Dev nD) → Dat τ (Elt F) (HIx 1) ℕ UU ℕ (Pipeline.pin (pcfgs (F := F)) adm p) c
  | ⟨0, _⟩ => fun c => dat V c

/-- What the core owes beside: nothing, its recorded waits under the bound. -/
abbrev tcOwes (c : Dev nD) : sProp 𝕄 :=
  iprop(∃ W, ⌜(K (F := F)).WBelow (SparseCore.T c) W 8⌝ ∗ owes (SparseCore.T c : Thread nD τ) (0 : CellTallies nD τ sig (HIx 1)) W)

variable (Vp : (c : Dev nD) → (b : Ref sig .tc) → Buf (Elt F) ((c : Thread nD τ).loc b))

set_option maxHeartbeats 4000000 in
set_option backward.isDefEq.respectTransparency.types false in
/-- The region: entered from the device's unscoped buffers at `V`, left with them at `Vp`, which has the two outputs'
    arrays as written back and agrees with `V` elsewhere. -/
def reg (R : Dev nD → sProp 𝕄) (h9 : ∀ c, Vp c main_v16_0 = (dat V c).arrAt 9 cfg1.N) (h10 : ∀ c, Vp c main_v16_1 = (dat V c).arrAt 10 cfg1.N)
    (hne : ∀ c (b : Ref sig .tc), b ≠ main_v16_0 → b ≠ main_v16_1 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ tcOwes c)
  post c := iprop(unscopedBufs c (Vp c) ∗ R c ∗ tcOwes c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Φc V c 0 from rfl, Φc, if_pos rfl]
    iintro ⟨-, -, Hr⟩; iexact Hr
  hout c := by
    rw [Pipeline.ownSems0_none, show (pdats V 0 c).Φ (Fin.last _) = Φc V c 25 from rfl, Φ_pos V c (by decide)]
    rw [show (Pipeline.scopedRest (Pipeline.pin (pcfgs (F := F)) adm 0).spec c : sProp 𝕄) = Pipeline.scopedRest spec1 c from rfl, scopedRest1_eq]
    iintro ⟨⟨%f, -, Hf⟩, ⟨%g, -, Hg⟩⟩
    isplitr; · iempintro
    isplitr; · iempintro
    isplitl [Hf]; · iexists f; iexact Hf
    iexists g; iexact Hg
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v11_0 (by decide) (by decide)).symm
        · exact ((pdats V 0 c).arrAt_in 1 rfl _).trans (hne c main_v13 (by decide) (by decide)).symm
        · exact ((pdats V 0 c).arrAt_in 2 rfl _).trans (hne c main_arg3 (by decide) (by decide)).symm
        · exact ((pdats V 0 c).arrAt_in 3 rfl _).trans (hne c main_v14 (by decide) (by decide)).symm
        · exact ((pdats V 0 c).arrAt_in 4 rfl _).trans (hne c main_arg5 (by decide) (by decide)).symm
        · exact ((pdats V 0 c).arrAt_in 5 rfl _).trans (hne c main_v12 (by decide) (by decide)).symm
        · exact ((pdats V 0 c).arrAt_in 6 rfl _).trans (hne c main_v11_1 (by decide) (by decide)).symm
        · exact ((pdats V 0 c).arrAt_in 7 rfl _).trans (hne c main_v15 (by decide) (by decide)).symm
        · exact ((pdats V 0 c).arrAt_in 8 rfl _).trans (hne c main_v11_2 (by decide) (by decide)).symm
        · exact (h9 c).symm
        · exact (h10 c).symm)
      (fun b hb => hne c b (fun h => hb (h ▸ Finset.mem_image.mpr ⟨9, Finset.mem_univ _, rfl⟩))
        (fun h => hb (h ▸ Finset.mem_image.mpr ⟨10, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Run

end
-- ==== Proof.Main.lean ====
/-
  `@main` on the TensorCore: the operations before the SparseCore call, the call, the operations between, the
  TensorCore kernel's region, the last operation. From any launch memory whose row lists are in range the program
  runs to its end, with every unscoped buffer at the contents `V5` names.
-/
module

public import proofs.«01_k».proof.Proof.Tile
public import proofs.«01_k».proof.Proof.Region

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The contents of the buffers after the SparseCore call -/

section Contents

variable (m : (ℓ : Loc nD τ sig) → Buf (Elt F) ℓ)

/-- After the SparseCore call: its three results hold the listed rows. -/
def V2 (d : Dev nD) : Valuation τ sig (Elt F) :=
  Function.update (Function.update (Function.update (V1 m d) (Proc.devRef .tc main_v11_0) (g0 m d)) (Proc.devRef .tc main_v11_1) (g1 m d))
    (Proc.devRef .tc main_v11_2) (g2 m d)
/-- When the TensorCore kernel starts. -/
def V3 (d : Dev nD) : Valuation τ sig (Elt F) := after midOps (V2 m d)
/-- The same, reference by reference. -/
abbrev W3 (c : Dev nD) (b : Ref sig .tc) : Buf (Elt F) ((c : Thread nD τ).loc b) := V3 m c b
/-- After the TensorCore kernel: its two results as written back. -/
def V4 (d : Dev nD) : Valuation τ sig (Elt F) :=
  Function.update (Function.update (V3 m d) (Proc.devRef .tc main_v16_0) ((dat (W3 m) d).arrAt 9 cfg1.N)) (Proc.devRef .tc main_v16_1) ((dat (W3 m) d).arrAt 10 cfg1.N)
/-- At the end. -/
def V5 (d : Dev nD) : Valuation τ sig (Elt F) := after postOps (V4 m d)

/-- After the SparseCore call its first output holds the gathered embedding rows, … -/
theorem V2_0 (d : Dev nD) : V2 m d (Proc.devRef .tc main_v11_0) = g0 m d := by
  rw [V2, Function.update_of_ne (by decide), Function.update_of_ne (by decide), Function.update_self]
/-- … its second the gathered rows of the output weights, … -/
theorem V2_1 (d : Dev nD) : V2 m d (Proc.devRef .tc main_v11_1) = g1 m d := by
  rw [V2, Function.update_of_ne (by decide), Function.update_self]
/-- … its third the gathered rows of the output bias, … -/
theorem V2_2 (d : Dev nD) : V2 m d (Proc.devRef .tc main_v11_2) = g2 m d := by
  rw [V2, Function.update_self]
/-- … and every other buffer what it held. -/
theorem V2_ne (d : Dev nD) (b : DevRef τ sig) (h0 : b ≠ Proc.devRef .tc main_v11_0) (h1 : b ≠ Proc.devRef .tc main_v11_1) (h2 : b ≠ Proc.devRef .tc main_v11_2) :
    V2 m d b = V1 m d b := by
  rw [V2, Function.update_of_ne h2, Function.update_of_ne h1, Function.update_of_ne h0]

end Contents

/-! ## The call's nine arrays, task by task -/

/-- A tile's rows of an output. -/
theorem oRowSet_eq (w : Fin 32) : oRowSet w = (orow w).set := by
  show ((View.whole (main_v11_0_scv : Ref sig .scVector)).slice (orow w)).set = _
  rw [View.set_slice]; exact Finset.map_refl
/-- No two tiles' rows meet. -/
theorem orows_disjoint : ∀ v ∈ (Finset.univ : Finset (Fin 32)), ∀ w ∈ (Finset.univ : Finset (Fin 32)), v ≠ w → Disjoint (oRowSet v) (oRowSet w) :=
  fun v _ w _ h => by rw [oRowSet_eq, oRowSet_eq]; exact Rect.part_disjoint odiv h
/-- The tiles' rows are all the rows. -/
theorem orows_cover : (Finset.univ : Finset (Fin 32)).biUnion oRowSet = Finset.univ :=
  (Finset.biUnion_congr rfl fun w _ => oRowSet_eq w).trans (Rect.biUnion_part odiv)

omit [FloatOps F] in
/-- The first output is the tiles' parts of it. -/
theorem o0_rows (d : Dev nD) (f : Buf (Elt F) (o0Loc d)) : (o0Loc d ↦{fullShare} f : sProp 𝕄) = bigSep Finset.univ fun w : Fin 32 => o0Loc d ↦[oRowSet w]{fullShare} f := by
  rw [← pointsTo_biUnion Finset.univ (ℓ := o0Loc d) oRowSet orows_disjoint, orows_cover]; try rfl
omit [FloatOps F] in
/-- The second output is the tiles' parts of it. -/
theorem o1_rows (d : Dev nD) (f : Buf (Elt F) (o1Loc d)) : (o1Loc d ↦{fullShare} f : sProp 𝕄) = bigSep Finset.univ fun w : Fin 32 => o1Loc d ↦[oRowSet w]{fullShare} f := by
  rw [← pointsTo_biUnion Finset.univ (ℓ := o1Loc d) oRowSet orows_disjoint, orows_cover]; try rfl
omit [FloatOps F] in
/-- The third output is the tiles' parts of it. -/
theorem o2_rows (d : Dev nD) (f : Buf (Elt F) (o2Loc d)) : (o2Loc d ↦{fullShare} f : sProp 𝕄) = bigSep Finset.univ fun w : Fin 32 => o2Loc d ↦[oRowSet w]{fullShare} f := by
  rw [← pointsTo_biUnion Finset.univ (ℓ := o2Loc d) oRowSet orows_disjoint, orows_cover]; try rfl
omit [FloatOps F] in
/-- A buffer that all tiles read is handed out in equal shares. -/
theorem shr (ℓ : Loc nD τ sig) (f : Buf (Elt F) ℓ) : (ℓ ↦{fullShare} f : sProp 𝕄) = bigSep Finset.univ fun w : Fin 32 => ℓ ↦{xq w} f :=
  ShareLeaves.pointsTo_leaves Finset.univ f 5 fullShare

/-- The 32 tasks as two SparseCores' sixteen. -/
def wkEquiv : Fin 2 × Fin 16 ≃ Fin 32 where
  toFun p := wk p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
/-- A claim for each of 32 tiles is one for each core and each of its subcores. -/
theorem tasks_split (Φ : Fin 32 → sProp 𝕄) :
    bigSep Finset.univ Φ = bigSep Finset.univ fun c : Fin 2 => bigSep Finset.univ fun i : Fin 16 => Φ (wk c i) := by
  rw [BI.bigSep_univ_equiv wkEquiv Φ, BI.bigSep_univ_prod]; rfl

/-- The call's operands and results, as the TensorCore refers to them. -/
def scRefs : Finset (DevRef τ sig) :=
  {Proc.devRef .tc main_v2, Proc.devRef .tc main_v5, Proc.devRef .tc main_v7, Proc.devRef .tc main_v8, Proc.devRef .tc main_v9, Proc.devRef .tc main_v10,
    Proc.devRef .tc main_v11_0, Proc.devRef .tc main_v11_1, Proc.devRef .tc main_v11_2}
/-- The call's operands are buffers of the program. -/
theorem scRefs_sub : scRefs ⊆ ucRefs := by unfold ucRefs Pipeline.ucRefs; decide

omit [FloatOps F] in
/-- The call's operands, one by one. -/
theorem held_sc (d : Dev nD) (W : Valuation τ sig (Elt F)) :
    (held (d : Thread nD τ) scRefs W : sProp 𝕄) = iprop((e128Loc d ↦{fullShare} W (Proc.devRef .tc main_v2)) ∗ (w128Loc d ↦{fullShare} W (Proc.devRef .tc main_v5))
      ∗ (b128Loc d ↦{fullShare} W (Proc.devRef .tc main_v7)) ∗ (i0Loc d ↦{fullShare} W (Proc.devRef .tc main_v8)) ∗ (i1Loc d ↦{fullShare} W (Proc.devRef .tc main_v9))
      ∗ (i2Loc d ↦{fullShare} W (Proc.devRef .tc main_v10)) ∗ (o0Loc d ↦{fullShare} W (Proc.devRef .tc main_v11_0)) ∗ (o1Loc d ↦{fullShare} W (Proc.devRef .tc main_v11_1))
      ∗ (o2Loc d ↦{fullShare} W (Proc.devRef .tc main_v11_2))) := by
  unfold held scRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

variable (m : (ℓ : Loc nD τ sig) → Buf (Elt F) ℓ) (ρ : Dev nD → PrngReg)

/-- What the tiles hand back is the operands and the finished outputs. -/
theorem tasks_join (d : Dev nD) (f0 : Buf (Elt F) (o0Loc d)) (f1 : Buf (Elt F) (o1Loc d)) (f2 : Buf (Elt F) (o2Loc d)) :
    (bigSep Finset.univ fun w : Fin 32 => iprop(shares m d w ∗ rows3 d w f0 f1 f2) : sProp 𝕄)
      = iprop(((e128Loc d ↦{fullShare} e128 m d) ∗ (w128Loc d ↦{fullShare} w128 m d) ∗ (b128Loc d ↦{fullShare} b128 m d)
        ∗ (i0Loc d ↦{fullShare} i0 m d) ∗ (i1Loc d ↦{fullShare} i1 m d) ∗ (i2Loc d ↦{fullShare} i2 m d))
        ∗ (o0Loc d ↦{fullShare} f0) ∗ (o1Loc d ↦{fullShare} f1) ∗ (o2Loc d ↦{fullShare} f2)) := by
  rw [bigSep_sep', bigSep_sep', bigSep_sep', bigSep_sep', bigSep_sep', bigSep_sep', bigSep_sep', bigSep_sep',
    ← shr, ← shr, ← shr, ← shr, ← shr, ← shr, ← o0_rows, ← o1_rows, ← o2_rows]

/-- What the cores start with is what the tiles are given. -/
theorem st0_eq (d : Dev nD) : (bigSep Finset.univ fun c : Fin ((K (F := F)).nCore 0) => (P m).st 0 d c) = bigSep Finset.univ (goW m d) :=
  (tasks_split (goW m d)).symm
/-- What the cores hand back is what the tiles hand back. -/
theorem dn0_eq (d : Dev nD) : (bigSep Finset.univ fun c : Fin ((K (F := F)).nCore 0) => (P m).dn 0 d c) = bigSep Finset.univ (tdW m d) :=
  (tasks_split (tdW m d)).symm

/-- The call's operands out of the buffers at its start … -/
theorem st0_held (d : Dev nD) : (held (d : Thread nD τ) scRefs (V1 m d) : sProp 𝕄) ⊢ bigSep Finset.univ fun c : Fin ((K (F := F)).nCore 0) => (P m).st 0 d c := by
  rw [st0_eq, tasks_join, held_sc]
  iintro ⟨H1, H2, H3, H4, H5, H6, Ho⟩
  isplitr [Ho]
  · isplitl [H1]; · iexact H1
    isplitl [H2]; · iexact H2
    isplitl [H3]; · iexact H3
    isplitl [H4]; · iexact H4
    isplitl [H5]; · iexact H5
    iexact H6
  iexact Ho
/-- … and its results back among them. -/
theorem dn0_held (d : Dev nD) : (bigSep Finset.univ fun c : Fin ((K (F := F)).nCore 0) => (P m).dn 0 d c) ⊢ (held (d : Thread nD τ) scRefs (V2 m d) : sProp 𝕄) := by
  rw [dn0_eq, tasks_join, held_sc, V2_0, V2_1, V2_2, V2_ne m d (Proc.devRef .tc main_v2) (by decide) (by decide) (by decide), V2_ne m d (Proc.devRef .tc main_v5) (by decide) (by decide) (by decide),
    V2_ne m d (Proc.devRef .tc main_v7) (by decide) (by decide) (by decide), V2_ne m d (Proc.devRef .tc main_v8) (by decide) (by decide) (by decide),
    V2_ne m d (Proc.devRef .tc main_v9) (by decide) (by decide) (by decide), V2_ne m d (Proc.devRef .tc main_v10) (by decide) (by decide) (by decide)]
  iintro ⟨⟨H1, H2, H3, H4, H5, H6⟩, Ho⟩
  isplitl [H1]; · iexact H1
  isplitl [H2]; · iexact H2
  isplitl [H3]; · iexact H3
  isplitl [H4]; · iexact H4
  isplitl [H5]; · iexact H5
  isplitl [H6]; · iexact H6
  iexact Ho
/-- The buffers the call does not touch keep their contents. -/
theorem rest_held (d : Dev nD) : (held (d : Thread nD τ) (ucRefs \ scRefs) (V1 m d) : sProp 𝕄) = held (d : Thread nD τ) (ucRefs \ scRefs) (V2 m d) :=
  StableHlo.held_congr _ fun b hb => by
    have hn := (Finset.mem_sdiff.mp hb).2
    refine (V2_ne m d b ?_ ?_ ?_).symm <;> rintro rfl <;> exact hn (by decide)

/-- How the call's operands split among the tiles, and join again. -/
theorem vecSplit : (K (F := F)).VecSplit' (P m) 0 := by
  intro d c
  have e1 : (bigSep Finset.univ fun i : Fin ((K (F := F)).nSub 0) => (P m).go 0 d c i) = (P m).st 0 d c := rfl
  have e2 : (bigSep Finset.univ fun i : Fin ((K (F := F)).nSub 0) => (P m).td 0 d c i) = (P m).dn 0 d c := rfl
  rw [e1, e2]
  iintro H; imodintro
  isplitl [H]; · iexact H
  iintro H; iexact H

/-! ## The launch element of the ghost state -/

/-- The staging cells' ghost state. -/
abbrev uP : UP := initOf (Pipeline.cells (nD := nD) (τ := τ) (Pipeline.pin (pcfgs (F := F)) adm) cellOf_inj) (Pipeline.launchToks (nD := nD) (τ := τ) (Pipeline.pin (pcfgs (F := F)) adm) cellOf_inj)
/-- The launch element: the handshakes' cells, the staging cells. -/
def u₀ : UU := (initOf (K (F := F)).hsCells (K (F := F)).hsToks, (uP (F := F), 1))

/-- What the TensorCore of each device is dealt beside its state: its staging cells and their tokens. -/
abbrev Gst (d : Dev nD) : sProp 𝕄 :=
  iprop(Pipeline.cellsGhost (Pipeline.pin (pcfgs (F := F)) adm) EP 0 d ∗ Pipeline.toksInit (Pipeline.pin (pcfgs (F := F)) adm) EP 0 d)

/-- The ghost state that the launch starts from. -/
theorem hu₀ : (ownU (u₀ (F := F)) : sProp 𝕄)
    ⊢ |={Set.univ}=> iprop(BI.own (EH (initOf (K (F := F)).hsCells (K (F := F)).hsToks)) ∗ (bigSep Finset.univ fun d : Dev nD => Gst (F := F) d)
        ∗ bigSep Finset.univ fun thr : Thread nD τ => bigSep Finset.univ fun q : Fin 1 => (P m).x q thr) := by
  unfold u₀
  have hx : (bigSep Finset.univ fun thr : Thread nD τ => bigSep Finset.univ fun q : Fin 1 => (P (F := F) m).x q thr) = (iprop(emp) : sProp 𝕄) :=
    (BI.bigSep_congr fun _ _ => bigSep_univ_of_subsingleton (0 : Fin 1)).trans (bigSep_emp_const _)
  have hg : (bigSep Finset.univ fun d : Dev nD => Gst (F := F) d) = iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c)) := by
    rw [bigSep_sep']
    congr 1
    · exact BI.bigSep_congr fun c _ => (bigSep_univ_of_subsingleton (Φ := fun p : Fin 1 => Pipeline.cellsGhost (Pipeline.pin (pcfgs (F := F)) adm) EP p c) (0 : Fin 1)).symm
    · exact BI.bigSep_congr fun c _ => (bigSep_univ_of_subsingleton (Φ := fun p : Fin 1 => Pipeline.toksInit (Pipeline.pin (pcfgs (F := F)) adm) EP p c) (0 : Fin 1)).symm
  rw [hx, hg]
  iintro Hu
  ihave H := (ownU_pair (initOf (K (F := F)).hsCells (K (F := F)).hsToks) ((uP (F := F), (1 : Counters)))) $$ Hu
  icases H with ⟨HH, HP⟩
  ihave H := (own_pair_emb embR (uP (F := F)) (1 : Counters)) $$ HP
  icases H with ⟨HP, -⟩
  imod (Pipeline.fund_ghost (Pipeline.pin (pcfgs (F := F)) adm) EP cellOf_inj) $$ HP with HP
  imodintro
  isplitl [HH]; · iexact HH
  isplitl [HP]; · iexact HP
  iempintro

/-! ## @main -/

/-- The first host operations touch buffers of the program only. -/
theorem pre_bufs : ∀ op ∈ preOps (F := F), op.bufs ⊆ ucRefs := fun op h => Pipeline.sub_ucRefs op (by
  revert op h; refine (List.forall_iff_forall_mem (p := fun op : HloOp τ sig (Elt F) => op.bufs ⊆ StableHlo.tcRefs τ sig)).mp ?_; simp [preOps])
/-- They allocate nothing. -/
theorem pre_fresh : ∀ op ∈ preOps (F := F), op.fresh = ∅ := by
  refine (List.forall_iff_forall_mem (p := fun op : HloOp τ sig (Elt F) => op.fresh = ∅)).mp ?_
  simp only [preOps, preOps₁, padOps, divOps, List.cons_append, List.nil_append, List.append_assoc]
  repeat' first | exact rfl | apply And.intro
/-- So for those between the calls. -/
theorem mid_bufs : ∀ op ∈ midOps (F := F), op.bufs ⊆ ucRefs := fun op h => Pipeline.sub_ucRefs op (by
  revert op h; refine (List.forall_iff_forall_mem (p := fun op : HloOp τ sig (Elt F) => op.bufs ⊆ StableHlo.tcRefs τ sig)).mp ?_; simp [midOps])
/-- They allocate nothing. -/
theorem mid_fresh : ∀ op ∈ midOps (F := F), op.fresh = ∅ := by
  refine (List.forall_iff_forall_mem (p := fun op : HloOp τ sig (Elt F) => op.fresh = ∅)).mp ?_; simp [midOps]; exact ⟨rfl, rfl, rfl, rfl⟩
/-- So for the last. -/
theorem post_bufs : ∀ op ∈ postOps (F := F), op.bufs ⊆ ucRefs := fun op h => Pipeline.sub_ucRefs op (by
  revert op h; refine (List.forall_iff_forall_mem (p := fun op : HloOp τ sig (Elt F) => op.bufs ⊆ StableHlo.tcRefs τ sig)).mp ?_; simp [postOps])
/-- It allocates nothing. -/
theorem post_fresh : ∀ op ∈ postOps (F := F), op.fresh = ∅ := by
  refine (List.forall_iff_forall_mem (p := fun op : HloOp τ sig (Elt F) => op.fresh = ∅)).mp ?_; simp [postOps]; rfl

/-- What the run leaves: every unscoped buffer at `V5`. -/
abbrev FIN (d : Dev nD) : sProp 𝕄 := held (d : Thread nD τ) ucRefs (V5 m d)

/-- The region over this run's contents. -/
abbrev theReg (R : Dev nD → sProp 𝕄) := reg (F := F) (W3 m) (fun c b => V4 m c b) R
  (fun c => by
    show V4 m c (Proc.devRef .tc main_v16_0) = _
    rw [V4, Function.update_of_ne (by decide), Function.update_self])
  (fun c => by
    show V4 m c (Proc.devRef .tc main_v16_1) = _
    rw [V4, Function.update_self])
  (fun c b h9 h10 => by
    show V4 m c (Proc.devRef .tc b) = V3 m c (Proc.devRef .tc b)
    rw [V4, Function.update_of_ne (fun h => h10 (Proc.devRef_injective _ h)), Function.update_of_ne (fun h => h9 (Proc.devRef_injective _ h))])

/-- The TensorCore's state after the one call: what it owes beside the rest. -/
theorem tcSt_one (d : Dev nD) : ((K (F := F)).tcSt EH d 1 : sProp 𝕄) = iprop(tcOwes d ∗ (atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))) := by
  have h0 : (K (F := F)).Otc (N := 1) d 1 = (0 : CellTallies nD τ sig (HIx 1)) :=
    Finset.sum_eq_zero fun q _ => if_neg (by have := q.isLt; omega)
  unfold SparseCore.Cfg.tcSt tcOwes
  rw [h0]
  rfl

/-- The region's call, in the signature of the pipelines. -/
def regionCall : Prog (TpuEff nD τ sig (Elt F) (ΛP (F := F)) .tc) PUnit := .op (.customCall (Pipeline.entry 0) ()) fun _ => .ret PUnit.unit

/-- `@main` makes that call lifted into the signature with the SparseCore's labels. -/
theorem call_lift : (Prog.lift (.customCall (SparseCore.inner (Pipeline.entry 0)) ()) :
      Prog (TpuEff nD τ sig (Elt F) (SparseCore.Sig (ΛP (F := F)) 1) .tc) PUnit) = SparseCore.liftProg (regionCall (F := F)) := rfl

set_option maxHeartbeats 1000000 in
/-- The region's call in `@main`: from the boundary, the buffers at `V3`, what is owed, the levels and the region's ghost
    state it comes back with the buffers at `V4`. -/
theorem region_wp (d : Dev nD) (Q : PUnit → sProp 𝕄) :
    iprop(((boundary (SparseCore.T d) ∗ held (d : Thread nD τ) ucRefs (V4 m d) ∗ tcOwes d) -∗ Q ⟨⟩)
        ∗ boundary (SparseCore.T d) ∗ held (d : Thread nD τ) ucRefs (V3 m d) ∗ tcOwes d
        ∗ levAts (K (F := F)).L (K (F := F)).lev ∗ Gst d)
      ⊢ wp frame (wpE ((K (F := F)).defs (D (F := F))) 𝒱 (SparseCore.T d) none) Set.univ
          (Prog.lift (.customCall (SparseCore.inner (Pipeline.entry 0)) ())) Q := by
  rw [call_lift]
  refine BIBase.Entails.trans ?_ ((K (F := F)).wp_liftProg (D (F := F)) 𝒱 (SparseCore.T d) Set.univ none regionCall Q)
  refine BIBase.Entails.trans ?_ (Pipeline.RegionSeg.wp pcfgs adm (pdats (W3 m)) none cellOf_inj EP defs₀ 𝒱₀ (K (F := F)).L
    (K (F := F)).lev (theReg m fun _ => iprop(emp)) d none (fun _ h => nomatch h) (fun _ => .ret PUnit.unit) Q)
  iintro ⟨Hk, Hb, Hh, HO, Hlev, Hgc, Hgt⟩
  isplitl [Hk]
  · rw [wp_ret, show (theReg m fun _ => iprop(emp)).post d = iprop(unscopedBufs d (fun b => V4 m d b) ∗ emp ∗ tcOwes d) from rfl]
    iintro ⟨Hb, Hh, -, HO⟩
    imodintro
    iapply Hk
    isplitl [Hb]; · iexact Hb
    isplitl [Hh]; · iapply (Entails.of_eq (Pipeline.unscopedBufs_held d (V4 m d))); iexact Hh
    iexact HO
  isplitl [Hb]; · iexact Hb
  isplitl [Hh HO]
  · rw [show (theReg m fun _ => iprop(emp)).pre d = iprop(unscopedBufs d (fun b => V3 m d b) ∗ emp ∗ tcOwes d) from rfl]
    isplitl [Hh]; · iapply (Entails.of_eq (Pipeline.unscopedBufs_held d (V3 m d)).symm); iexact Hh
    isplitr; · iempintro
    iexact HO
  isplitl [Hlev]; · iexact Hlev
  isplitl [Hgc]; · iexact Hgc
  iexact Hgt

/-- The TensorCore's thread: host operations, SparseCore call, host operations, TensorCore call, reshape. -/
theorem hmain (κ : GSem nD τ sig → ℕ) (d : Dev nD) :
    iprop((K (F := F)).ctx EH (P m) κ ∗ (K (F := F)).tcSt EH d 0 ∗ (K (F := F)).tcRes m ρ d ∗ Gst d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) ucRefs (V0 m d) from Pipeline.unscopedBufs_held d (V0 m d), main_eq]
  iintro ⟨#Hctx, Hst, ⟨Hb, Hh, Hts, -⟩, Hg⟩
  iapply (StableHlo.wp_seq 𝒱 none Set.univ d ucRefs _ preOps pre_bufs pre_fresh (V0 m d)) $$ [Hb Hh]
  · isplitl [Hb]; · iexact Hb
    iexact Hh
  rw [show after preOps (V0 m d) = V1 m d from rfl, wp_bind]
  iintro ⟨Hb, Hh⟩
  ihave Hh := (Entails.of_eq (StableHlo.held_sub_split (d : Thread nD τ) scRefs_sub (V1 m d))) $$ Hh
  icases Hh with ⟨Hsc, Hrest⟩
  ihave Hrest := (Entails.of_eq (rest_held m d)) $$ Hrest
  iapply ((K (F := F)).wp_run (D (F := F)) 𝒱 (EH := EH) (P := P m) κ d 0) $$ [Hst Hsc Hrest Hb Hts Hg]
  isplitr; · iexact Hctx
  isplitl [Hst]; · iexact Hst
  isplitl [Hsc]; · iapply (st0_held m d); iexact Hsc
  iintro ⟨Hst, Hdn⟩
  ihave Hsc := (dn0_held m d) $$ Hdn
  ihave Hh := (Entails.of_eq (StableHlo.held_sub_split (d : Thread nD τ) scRefs_sub (V2 m d)).symm) $$ [Hsc Hrest]
  · isplitl [Hsc]; · iexact Hsc
    iexact Hrest
  iapply (StableHlo.wp_seq 𝒱 none Set.univ d ucRefs _ midOps mid_bufs mid_fresh (V2 m d)) $$ [Hb Hh]
  · isplitl [Hb]; · iexact Hb
    iexact Hh
  rw [show after midOps (V2 m d) = V3 m d from rfl, wp_bind]
  iintro ⟨Hb, Hh⟩
  ihave Hlev := (SparseCore.Cfg.ctx_levAts κ) $$ Hctx
  ihave Hst := (Entails.of_eq (show (K (F := F)).tcSt EH d (((0 : Fin 1) : ℕ) + 1) = _ from tcSt_one d)) $$ Hst
  icases Hst with ⟨HO, Hst⟩
  iapply (region_wp m d _)
  isplitr [Hb Hh HO Hlev Hg]
  · rw [← bind_pure (StableHlo.seq (postOps (F := F)))]
    iintro ⟨Hb, Hh, HO⟩
    iapply (StableHlo.wp_seq 𝒱 none Set.univ d ucRefs _ postOps post_bufs post_fresh (V4 m d)) $$ [Hb Hh]
    · isplitl [Hb]; · iexact Hb
      iexact Hh
    rw [show after postOps (V4 m d) = V5 m d from rfl, wp_pure]
    iintro ⟨Hb, Hh⟩
    imodintro
    isplitl [HO Hst]
    · iapply (Entails.of_eq (tcSt_one d).symm)
      isplitl [HO]; · iexact HO
      iexact Hst
    isplitl [Hh]; · iexact Hh
    isplitl [Hb]; · iexact Hb
    iexact Hts
  isplitl [Hb]; · iexact Hb
  isplitl [Hh]; · iexact Hh
  isplitl [HO]; · iexact HO
  isplitl [Hlev]; · iexact Hlev
  iexact Hg

/-! ## The final memory and the run -/

/-- What is read off the final memory of one device: every unscoped buffer at `V5`. -/
def fq (d : Dev nD) (s' : Phys nD τ sig (Elt F)) : Prop := ∀ b ∈ ucRefs, s'.mem.mem (d, b) = V5 m d b

/-- What the run ends with, read off the memory. -/
theorem hfin (d : Dev nD) (s' : Phys nD τ sig (Elt F)) : iprop(FIN m d ∗ SI s') ⊢ (⌜fq m d s'⌝ : sProp 𝕄) := by
  iintro ⟨Hh, HSI⟩
  iapply (SI_pointsTo_bufs_agree (c := d) (qs := fun _ => fullShare) (F := V5 m d) (st := s') ucRefs)
  isplitl [HSI]; · iexact HSI
  iapply (Entails.of_eq (show (FIN m d : sProp 𝕄) = bigSep ucRefs (fun b => ((d, b) : Loc nD τ sig) ↦{fullShare} V5 m d b) from rfl)); iexact Hh

/-- The run's postcondition: on every device each unscoped buffer at `V5`, every semaphore at zero. -/
def QC : PUnit × MemSt nD τ sig (Elt F) → Prop := fun r =>
  (∀ d : Dev nD, ∀ b ∈ ucRefs, r.2.mem (d, b) = V5 m d b) ∧ r.2.sem = fun _ => 0

/-- From indices in range the whole program runs, and ends with the buffers at `V5` and no semaphore raised. -/
theorem run_main (hR : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts hR)
    (fun q _ => match q with | 0 => SparseCore.Cfg.VecSplit.of_plain (vecSplit m))
    m ρ main Gst (FIN m) u₀ (sep_elim_left.trans (hu₀ m)) (hmain m ρ) (fq m) (hfin m) (QC m)
    (fun _ h hz => ⟨h, hz⟩)

end Cert.Proof.Run

end
-- ==== Proof.Values.lean ====
/-
  The buffers' contents as terms of the arguments: what the operations before, between and after the two kernels leave,
  the three row lists as quotients of the index arguments, and from indices in range that every listed row is a row of
  its table.
-/
module

public import proofs.«01_k».proof.Proof.Main
public import Idealize.ShloMosaic.Lib.Routing.Words

@[expose] public section

noncomputable section

namespace Cert.Proof.Run

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- Floor division of a list of numbers by one number, as the program computes it: the truncated quotient, less one where
    the signs differ and the remainder is not zero. -/
def fdiv (x : IVec S1024 32) (k : BitVec 32) : IVec S1024 32 :=
  select (andi (cmpi .ne (signi x) (broadcastInDim S1024 ![] bcast_S_S1024 (signi (id (constantI S_ 32 k)))))
      (cmpi .ne (Host.remsi x (broadcastInDim S1024 ![] bcast_S_S1024 (id (constantI S_ 32 k)))) (broadcastInDim S1024 ![] bcast_S_S1024 (constantI S_ 32 0#32))))
    (subi (Host.divsi x (broadcastInDim S1024 ![] bcast_S_S1024 (id (constantI S_ 32 k)))) (broadcastInDim S1024 ![] bcast_S_S1024 (constantI S_ 32 1#32)))
    (Host.divsi x (broadcastInDim S1024 ![] bcast_S_S1024 (id (constantI S_ 32 k))))

/-- The sign of a positive number. -/
theorem sign_pos {a : ℕ} (h0 : 0 < a) (ha : a < 2 ^ 31) :
    (if BitVec.ofNat 32 a = 0 then 0 else if (BitVec.ofNat 32 a).msb then -1 else 1) = (1#32 : BitVec 32) := by
  have hta : (BitVec.ofNat 32 a).toNat = a := by rw [BitVec.toNat_ofNat]; omega
  have h1 : BitVec.ofNat 32 a ≠ 0 := fun h => by
    have := congrArg BitVec.toNat h
    rw [hta, show (0 : BitVec 32).toNat = 0 from rfl] at this; omega
  have h2 : (BitVec.ofNat 32 a).msb = false := by rw [BitVec.msb_eq_false_iff_two_mul_lt, hta]; omega
  rw [if_neg h1, h2]; rfl

/-- On a number that is not negative it is the quotient of naturals. -/
theorem fdiv_apply (x : IVec S1024 32) {k : ℕ} (hk : 0 < k) (hk' : k < 2 ^ 31) (j : S1024.Idx) (hx : (x j).toNat < 2 ^ 31) :
    fdiv x (BitVec.ofNat 32 k) j = BitVec.ofNat 32 ((x j).toNat / k) := by
  obtain ⟨a, ha, hxa⟩ : ∃ a < 2 ^ 31, x j = BitVec.ofNat 32 a := ⟨_, hx, by simp⟩
  have hta : (BitVec.ofNat 32 a).toNat = a := by rw [BitVec.toNat_ofNat]; omega
  have hq : Host.divsi x (broadcastInDim S1024 ![] bcast_S_S1024 (id (constantI S_ 32 (BitVec.ofNat 32 k)))) j = BitVec.ofNat 32 (a / k) := by
    show IntOp.divsi .host (x j) (BitVec.ofNat 32 k) = _
    rw [hxa, Routing.divsi_word .host ha hk hk']
  have hr : Host.remsi x (broadcastInDim S1024 ![] bcast_S_S1024 (id (constantI S_ 32 (BitVec.ofNat 32 k)))) j = BitVec.ofNat 32 (a % k) := by
    show IntOp.remsi .host (x j) (BitVec.ofNat 32 k) = _
    rw [hxa, Routing.remsi_word .host ha hk hk']
  have hsk : (signi (id (constantI S_ 32 (BitVec.ofNat 32 k))) : IVec S_ 32) = fun _ => 1#32 := by
    funext i
    show (if BitVec.ofNat 32 k = 0 then 0 else if (BitVec.ofNat 32 k).msb then -1 else 1) = (1#32 : BitVec 32)
    exact sign_pos hk hk'
  have hc : andi (cmpi .ne (signi x) (broadcastInDim S1024 ![] bcast_S_S1024 (signi (id (constantI S_ 32 (BitVec.ofNat 32 k))))))
      (cmpi .ne (Host.remsi x (broadcastInDim S1024 ![] bcast_S_S1024 (id (constantI S_ 32 (BitVec.ofNat 32 k))))) (broadcastInDim S1024 ![] bcast_S_S1024 (constantI S_ 32 0#32))) j = 0#1 := by
    show IntOp.andi (IntOp.cmpi .ne (signi x j) (signi (id (constantI S_ 32 (BitVec.ofNat 32 k))) _))
      (IntOp.cmpi .ne (Host.remsi x (broadcastInDim S1024 ![] bcast_S_S1024 (id (constantI S_ 32 (BitVec.ofNat 32 k)))) j) 0#32) = _
    rw [hr, hsk]
    rcases Nat.eq_zero_or_pos a with h0 | h0
    · subst h0; simp [IntOp.andi, IntOp.cmpi]
    · have : signi x j = 1#32 := by
        show (if x j = 0 then 0 else if (x j).msb then -1 else 1) = (1#32 : BitVec 32)
        rw [hxa]; exact sign_pos h0 ha
      rw [this]; simp [IntOp.andi, IntOp.cmpi]
  have hta' : (x j).toNat = a := by rw [hxa, hta]
  unfold fdiv
  show Scalar.select (andi _ _ j) _ _ = _
  rw [hc, hq, hta' ]
  rfl

set_option maxRecDepth 8192 in
set_option maxHeartbeats 8000000 in
/-- The three row lists: half of each source index, half of each target index, a 128th of each target index. -/
theorem V1_lists (d : Dev nD) :
    i0 m d = fdiv (m ((d.tc : Thread nD τ).loc main_arg0)) 2#32 ∧ i1 m d = fdiv (m ((d.tc : Thread nD τ).loc main_arg1)) 2#32
      ∧ i2 m d = fdiv (m ((d.tc : Thread nD τ).loc main_arg1)) 128#32 := by
  unfold i0 i1 i2 V1
  simp only [preOps, preOps₁, padOps, divOps, List.cons_append, List.nil_append, List.append_assoc, TRef.binary, TRef.nullary, TRef.reshape, TRef.ternary, TRef.unary, TRef.toBuf, TRef.ofBuf, cast_eq]
  refine ⟨?_, ?_, ?_⟩
  · after_results_simp; rfl
  · after_results_simp; rfl
  · after_results_simp; rfl

set_option maxRecDepth 8192 in
set_option maxHeartbeats 8000000 in
/-- The three tables: the two weight tables with their rows paired, the bias padded with zeros and cut into rows of 128. -/
theorem V1_tables (d : Dev nD) :
    e128 m d = packTab (m ((d.tc : Thread nD τ).loc main_arg2)) ∧ w128 m d = packTab (m ((d.tc : Thread nD τ).loc main_arg5))
      ∧ b128 m d = shapeCast S782x128 (pad S100096 ![0] ![96] ![0] (m ((d.tc : Thread nD τ).loc main_arg6) : FVec F S100000 .f32)
          (sitofp .f32 (constantI S_ 32 0#32)) pads_S100000_S100096_0960 h_S_) shapeCasts_S100096_S782x128 := by
  unfold e128 w128 b128 V1
  simp only [preOps, preOps₁, padOps, divOps, List.cons_append, List.nil_append, List.append_assoc, TRef.binary, TRef.nullary, TRef.reshape, TRef.ternary, TRef.unary, TRef.toBuf, TRef.ofBuf, cast_eq]
  refine ⟨?_, ?_, ?_⟩
  · after_results_simp; rfl
  · after_results_simp; rfl
  · after_results_simp; rfl

/-- The argument buffers. -/
def argRefs : Finset (DevRef τ sig) := {Proc.devRef .tc main_arg0, Proc.devRef .tc main_arg1, Proc.devRef .tc main_arg2,
  Proc.devRef .tc main_arg3, Proc.devRef .tc main_arg4, Proc.devRef .tc main_arg5, Proc.devRef .tc main_arg6}

set_option maxRecDepth 8192 in
set_option maxHeartbeats 8000000 in
/-- No operation before the first kernel writes an argument. -/
theorem V1_args (d : Dev nD) : ∀ b ∈ argRefs, V1 m d b = m (d, b) := by
  unfold V1 argRefs
  simp only [Finset.mem_insert, Finset.mem_singleton, forall_eq_or_imp, forall_eq]
  simp only [preOps, preOps₁, padOps, divOps, List.cons_append, List.nil_append, List.append_assoc, TRef.binary, TRef.nullary, TRef.reshape, TRef.ternary, TRef.unary, TRef.toBuf, TRef.ofBuf, cast_eq]
  refine ⟨?_, ?_, ?_, ?_, ?_, ?_, ?_⟩ <;> after_results_simp

/-- The buffers that the operations between the kernels write. -/
def midRefs : Finset (DevRef τ sig) := {Proc.devRef .tc main_v12, Proc.devRef .tc main_v13, Proc.devRef .tc main_v14, Proc.devRef .tc main_v15}

/-- What the second kernel starts from is, outside those four, what the first left. -/
theorem V3_of (d : Dev nD) (b : DevRef τ sig) (h : b ∉ midRefs) : V3 m d b = V2 m d b := by
  unfold V3
  simp only [midRefs, Finset.mem_insert, Finset.mem_singleton, not_or] at h
  refine after_of_forall_not_mem midOps (V2 m d) fun op hop => ?_
  simp only [midOps, List.mem_cons, List.not_mem_nil, or_false] at hop
  rcases hop with rfl | rfl | rfl | rfl
  · rw [reshape_writes, Finset.mem_singleton]; exact h.1
  · rw [reshape_writes, Finset.mem_singleton]; exact h.2.1
  · rw [reshape_writes, Finset.mem_singleton]; exact h.2.2.1
  · rw [reshape_writes, Finset.mem_singleton]; exact h.2.2.2

/-- The SparseCore call leaves the arguments alone. -/
theorem V2_args (d : Dev nD) : ∀ b ∈ argRefs, V2 m d b = m (d, b) := fun b hb => by
  rw [V2_ne m d b (by rintro rfl; revert hb; decide) (by rintro rfl; revert hb; decide) (by rintro rfl; revert hb; decide), V1_args m d b hb]
/-- So do the host operations between the calls. -/
theorem V3_args (d : Dev nD) : ∀ b ∈ argRefs, V3 m d b = m (d, b) := fun b hb => by
  rw [V3_of m d b (fun h => by revert hb; revert h; revert b; decide), V2_args m d b hb]
/-- So does the TensorCore call. -/
theorem V4_args (d : Dev nD) : ∀ b ∈ argRefs, V4 m d b = m (d, b) := fun b hb => by
  rw [V4, Function.update_of_ne (by rintro rfl; revert hb; decide), Function.update_of_ne (by rintro rfl; revert hb; decide), V3_args m d b hb]
/-- The last host operation writes the loss only. -/
theorem V5_of (d : Dev nD) (b : DevRef τ sig) (h : b ≠ Proc.devRef .tc main_v17) : V5 m d b = V4 m d b := by
  unfold V5
  refine after_of_forall_not_mem postOps (V4 m d) fun op hop => ?_
  simp only [postOps, List.mem_cons, List.not_mem_nil, or_false] at hop
  subst hop
  rw [reshape_writes, Finset.mem_singleton]; exact h
/-- At the end the arguments are as at the start. -/
theorem V5_args (d : Dev nD) : ∀ b ∈ argRefs, V5 m d b = m (d, b) := fun b hb => by
  rw [V5_of m d b (by rintro rfl; revert hb; decide), V4_args m d b hb]

/-- The gathered embedding rows, as the TensorCore call finds them. -/
theorem V3_11_0 (d : Dev nD) : V3 m d (Proc.devRef .tc main_v11_0) = g0 m d := (V3_of m d _ (by decide)).trans (V2_0 m d)
/-- The gathered rows of the output weights. -/
theorem V3_11_1 (d : Dev nD) : V3 m d (Proc.devRef .tc main_v11_1) = g1 m d := (V3_of m d _ (by decide)).trans (V2_1 m d)
/-- The gathered rows of the output bias. -/
theorem V3_11_2 (d : Dev nD) : V3 m d (Proc.devRef .tc main_v11_2) = g2 m d := (V3_of m d _ (by decide)).trans (V2_2 m d)
/-- The output bias in 25 blocks of 4000. -/
theorem V3_12 (d : Dev nD) : V3 m d (Proc.devRef .tc main_v12) = shapeCast S25x1x4000 (m ((d.tc : Thread nD τ).loc main_arg6) : FVec F S100000 .f32) shapeCasts_S100000_S25x1x4000 := by
  rw [show m ((d.tc : Thread nD τ).loc main_arg6) = V2 m d (Proc.devRef .tc main_arg6) from (V2_args m d (Proc.devRef .tc main_arg6) (by decide)).symm]
  unfold V3; simp only [midOps]; after_results_simp; rfl
/-- The sources as a column. -/
theorem V3_13 (d : Dev nD) : V3 m d (Proc.devRef .tc main_v13) = shapeCast S1024x1 (m ((d.tc : Thread nD τ).loc main_arg0) : IVec S1024 32) shapeCasts_S1024_S1024x1 := by
  rw [show m ((d.tc : Thread nD τ).loc main_arg0) = V2 m d (Proc.devRef .tc main_arg0) from (V2_args m d (Proc.devRef .tc main_arg0) (by decide)).symm]
  unfold V3; simp only [midOps]; after_results_simp; rfl
/-- The hidden bias as a row. -/
theorem V3_14 (d : Dev nD) : V3 m d (Proc.devRef .tc main_v14) = shapeCast S1x64 (m ((d.tc : Thread nD τ).loc main_arg4) : FVec F S64 .f32) shapeCasts_S64_S1x64 := by
  rw [show m ((d.tc : Thread nD τ).loc main_arg4) = V2 m d (Proc.devRef .tc main_arg4) from (V2_args m d (Proc.devRef .tc main_arg4) (by decide)).symm]
  unfold V3; simp only [midOps]; after_results_simp; rfl
/-- The targets as a column. -/
theorem V3_15 (d : Dev nD) : V3 m d (Proc.devRef .tc main_v15) = shapeCast S1024x1 (m ((d.tc : Thread nD τ).loc main_arg1) : IVec S1024 32) shapeCasts_S1024_S1024x1 := by
  rw [show m ((d.tc : Thread nD τ).loc main_arg1) = V2 m d (Proc.devRef .tc main_arg1) from (V2_args m d (Proc.devRef .tc main_arg1) (by decide)).symm]
  unfold V3; simp only [midOps]; after_results_simp; rfl

/-- The first result at the end: what the second kernel wrote back through its first output window. -/
theorem V5_16 (d : Dev nD) : V5 m d (Proc.devRef .tc main_v16_0) = (dat (W3 m) d).arrAt 9 cfg1.N := by
  rw [V5_of m d _ (by decide), V4, Function.update_of_ne (by decide), Function.update_self]
/-- The second result at the end: the one entry of the second output, as a scalar. -/
theorem V5_17 (d : Dev nD) : V5 m d (Proc.devRef .tc main_v17) = shapeCast S_ ((dat (W3 m) d).arrAt 10 cfg1.N : FVec F S1x1 .f32) shapeCasts_S1x1_S_ := by
  rw [show (dat (W3 m) d).arrAt 10 cfg1.N = V4 m d (Proc.devRef .tc main_v16_1) from by rw [V4, Function.update_self]]
  unfold V5; simp only [postOps]; after_results_simp; rfl

/-- Where both index arguments name nodes, every listed row is a row of its table. -/
theorem inRange_of (h : ∀ (d : Dev nD) (j : S1024.Idx), ((m ((d.tc : Thread nD τ).loc main_arg0) : IVec S1024 32) j).toNat < 100000
    ∧ ((m ((d.tc : Thread nD τ).loc main_arg1) : IVec S1024 32) j).toNat < 100000) : InRange m := fun d j => by
  obtain ⟨h0, h1⟩ := h d j
  obtain ⟨e0, e1, e2⟩ := V1_lists m d
  have t : ∀ (x : IVec S1024 32) (k : ℕ), (x j).toNat < 100000 → 0 < k → k < 2 ^ 31 → (fdiv x (BitVec.ofNat 32 k) j).toNat = (x j).toNat / k := fun x k hx hk hk' => by
    rw [fdiv_apply x hk hk' j (by omega), BitVec.toNat_ofNat, Nat.mod_eq_of_lt]
    exact lt_of_le_of_lt (Nat.div_le_self _ _) (by omega)
  refine ⟨?_, ?_, ?_⟩
  · rw [e0, t _ 2 h0 (by decide) (by decide)]; omega
  · rw [e1, t _ 2 h1 (by decide) (by decide)]; omega
  · rw [e2, t _ 128 h1 (by decide) (by decide)]; omega

end Cert.Proof.Run

end
-- ==== Proof.Same.lean ====
/-
  The two kernel programs have one text: their body tables and their threads are equal, over any float values.
-/
module

public import proofs.«01_k».proof.Proof.Gen.KernelIdeal
public import proofs.«01_k».proof.Proof.Gen.Kernel

@[expose] public section

noncomputable section

namespace Cert.Proof

open Idealize.ShloMosaic Idealize.SL.Sem

variable {F : FTy → Type} [FloatOps F]

set_option maxHeartbeats 4000000 in
set_option maxRecDepth 8192 in
/-- The kernels' bodies, label by label. -/
theorem bodies_eq : Cert.Kernel.defs₀ (F := F) = Cert.KernelIdeal.defs₀ (F := F) := by
  funext p l a
  match p, l, a with
  | .scVector c s, 0, a => rfl
  | .scVector c s, 1, a => rfl
  | .tc, 0, a => rfl
  | .tc, 1, (t, s) => rfl
  | .scScalar c, 0, a => rfl
  | .scScalar c, 1, a => rfl

set_option maxHeartbeats 4000000 in
set_option maxRecDepth 8192 in
/-- The body tables. -/
theorem defs_eq : Cert.Kernel.defs (F := F) = Cert.KernelIdeal.defs (F := F) := by
  show Cert.Kernel.sc.defs (Pipeline.defs Cert.Kernel.pcfgs Cert.Kernel.defs₀)
    = Cert.KernelIdeal.sc.defs (Pipeline.defs Cert.KernelIdeal.pcfgs Cert.KernelIdeal.defs₀)
  rw [← bodies_eq]
  rfl

set_option maxHeartbeats 4000000 in
set_option maxRecDepth 8192 in
/-- What each thread runs. -/
theorem threads_eq : Cert.Kernel.threads (F := F) = Cert.KernelIdeal.threads (F := F) := rfl

end Cert.Proof

end
-- ==== Proof.Frames.lean ====
/-
  The frames: both kernel programs and the reference run to their ends with their arguments unchanged and every
  semaphore at zero.
-/
module

public import proofs.«01_k».proof.Proof.Values
public import proofs.«01_k».proof.Proof.Same
public import Idealize.ShloMosaic.Lib.ReduceAll
public import proofs.«01_k».proof.Defs
public import proofs.«01_k».proof.Proof.Gen.Kernel
public import proofs.«01_k».proof.Proof.Gen.Kernel.Skeleton
public import proofs.«01_k».proof.Proof.Gen.ReferenceIdeal.Run
public import proofs.«01_k».proof.Proof.Gen.Pre_indices_in_range
public import proofs.«01_k».proof.Proof.Gen.Pre_indices_in_range_bias_finite

@[expose] public section

noncomputable section

namespace Cert.Proof

open Idealize.ShloMosaic Idealize.ShloMosaic.TcCoe Idealize.SL.Sem

/-- Every entry of a list of indices names one of 100000 nodes. -/
def Names (x : IVec ⟨1, ![1024]⟩ 32) : Prop := ∀ j, (x j).toNat < 100000

/-- The elementwise tests of a precondition, read at one place: both indices there name nodes. -/
theorem names_of_tests {v w : BitVec 32}
    (e : IntOp.andi (IntOp.andi (IntOp.andi (IntOp.cmpi .sge v 0#32) (IntOp.cmpi .slt v 100000#32)) (IntOp.cmpi .sge w 0#32)) (IntOp.cmpi .slt w 100000#32) = 1#1) :
    v.toNat < 100000 ∧ w.toNat < 100000 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

/-- `indices_in_range` says that both index arguments name nodes. -/
theorem names_of_pre {F : FTy → Type} [FloatOps F] (a0 a1 : IVec ⟨1, ![1024]⟩ 32) (a2 : FVec F ⟨2, ![100000, 64]⟩ .f32) (a3 : FVec F ⟨2, ![64, 64]⟩ .f32) (a4 : FVec F ⟨1, ![64]⟩ .f32)
    (a5 : FVec F ⟨2, ![100000, 64]⟩ .f32) (a6 : FVec F ⟨1, ![100000]⟩ .f32) (h : Cert.Pre_indices_in_range.fn a0 a1 a2 a3 a4 a5 a6 = fun _ => 1#1) : Names a0 ∧ Names a1 := by
  have t : ∀ j, (a0 j).toNat < 100000 ∧ (a1 j).toNat < 100000 := fun j => names_of_tests (congrFun h j)
  exact ⟨fun j => (t j).1, fun j => (t j).2⟩

/-- … and `indices_in_range_bias_finite` says it beside the finiteness of the output bias. -/
theorem names_bias_of_pre (a0 a1 : IVec ⟨1, ![1024]⟩ 32) (a2 : FVec Ideal ⟨2, ![100000, 64]⟩ .f32) (a3 : FVec Ideal ⟨2, ![64, 64]⟩ .f32) (a4 : FVec Ideal ⟨1, ![64]⟩ .f32)
    (a5 : FVec Ideal ⟨2, ![100000, 64]⟩ .f32) (a6 : FVec Ideal ⟨1, ![100000]⟩ .f32) (h : Cert.Pre_indices_in_range_bias_finite.fn a0 a1 a2 a3 a4 a5 a6 = fun _ => 1#1) :
    (Names a0 ∧ Names a1) ∧ ∀ j, (a6 j : EReal) ≠ ⊤ ∧ (a6 j : EReal) ≠ ⊥ := by
  dsimp only [Cert.Pre_indices_in_range_bias_finite.fn] at h
  have hand : ∀ p q : BitVec 1, IntOp.andi p q = 1#1 → p = 1#1 ∧ q = 1#1 := by decide
  have t := fun j => hand _ _ (congrFun h j)
  have n : ∀ j, (a0 j).toNat < 100000 ∧ (a1 j).toNat < 100000 := fun j => names_of_tests (t j).1
  refine ⟨⟨fun j => (n j).1, fun j => (n j).2⟩, fun j => ?_⟩
  haveI : Subsingleton (Shape.Idx ⟨0, ![]⟩) := ⟨fun a b => funext fun i => i.elim0⟩
  have r := Host.reduce_andi_all _ _ _ _ _ (t (ValueIdx.ix1 (n := 1024) 0)).2 j
  have r' : Ideal.cmp .olt (max (a6 j : EReal) (-(a6 j : EReal))) (Ideal.ofBits .f32 0x7F800000#32) = 1#1 := r
  rw [show Ideal.ofBits .f32 0x7F800000#32 = ⊤ by simp [Ideal.ofBits, Ideal.ieee]] at r'
  have hlt : max (a6 j : EReal) (-(a6 j : EReal)) < ⊤ := by
    by_contra hn
    have h0 : Ideal.cmp .olt (max (a6 j : EReal) (-(a6 j : EReal))) ⊤ = 0#1 := by
      unfold Ideal.cmp; rw [decide_eq_false hn]; rfl
    rw [h0] at r'; exact absurd r' (by decide)
  rw [max_lt_iff] at hlt
  exact ⟨hlt.1.ne, fun h => by rw [h] at hlt; exact absurd hlt.2 (by simp)⟩

section

open Cert.KernelIdeal

/-- The run of the program, over any float values, read at the arguments. -/
theorem run_args {F : FTy → Type} [FloatOps F] (m : (ℓ : Loc nD τ sig) → Buf (Elt F) ℓ) (ρ : Dev nD → PrngReg)
    (h : ∀ d : Dev nD, Names (m ((d.tc : Thread nD τ).loc main_arg0)) ∧ Names (m ((d.tc : Thread nD τ).loc main_arg1))) :
    θ_run (Cert.KernelIdeal.defs (F := F)) (Cert.KernelIdeal.threads (F := F)) ⟨m, fun _ => 0, ρ⟩ (fun r => (∀ c : Dev nD,
      r.2.mem ((c.tc : Thread nD τ).loc main_v16_0) = Run.V5 m c (Proc.devRef .tc main_v16_0)
      ∧ r.2.mem ((c.tc : Thread nD τ).loc main_v17) = Run.V5 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.KernelIdeal.defs _ _).mono (fun r hr => ⟨fun c => by
      have rd : ∀ b : Ref sig .tc, Proc.devRef .tc b ∈ Run.ucRefs → r.2.mem ((c.tc : Thread nD τ).loc b) = Run.V5 m c (Proc.devRef .tc b) := fun b hb => hr.1 c _ hb
      have ra : ∀ b : Ref sig .tc, Proc.devRef .tc b ∈ Run.ucRefs → Proc.devRef .tc b ∈ Run.argRefs → r.2.mem ((c.tc : Thread nD τ).loc b) = m ((c.tc : Thread nD τ).loc b) :=
        fun b hb ha => (rd b hb).trans (Run.V5_args m c _ ha)
      exact ⟨rd _ (by decide), rd _ (by decide), ra _ (by decide) (by decide), ra _ (by decide) (by decide), ra _ (by decide) (by decide), ra _ (by decide) (by decide),
        ra _ (by decide) (by decide), ra _ (by decide) (by decide), ra _ (by decide) (by decide)⟩, hr.2⟩)
    (Run.run_main m ρ (Run.inRange_of m fun d j => ⟨(h d).1 j, (h d).2 j⟩))

end

/-- The kernel at the machine's floats, its indices in range. -/
theorem frame_kernel : Cert.quiescent_Kernel := by
  intro m ρ h
  rw [defs_eq, threads_eq]
  have H := run_args (F := Bits) m ρ fun d => names_of_pre _ _ _ _ _ _ _ (h d)
  exact (θ_run Cert.KernelIdeal.defs _ _).mono (fun _ hr => ⟨fun c => (hr.1 c).2.2, hr.2⟩) H
/-- The kernel over the extended reals, its indices in range. -/
theorem frame_ideal : Cert.quiescent_KernelIdeal := fun m ρ h =>
  (θ_run Cert.KernelIdeal.defs _ _).mono (fun _ hr => ⟨fun c => (hr.1 c).2.2, hr.2⟩)
    (run_args (F := Ideal) m ρ fun d => names_of_pre _ _ _ _ _ _ _ (h d))
/-- The same where the output bias is finite besides. -/
theorem frame_ideal' : Cert.quiescent_KernelIdeal_pre_indices_in_range_bias_finite := fun m ρ h =>
  (θ_run Cert.KernelIdeal.defs _ _).mono (fun _ hr => ⟨fun c => (hr.1 c).2.2, hr.2⟩)
    (run_args (F := Ideal) m ρ fun d => (names_bias_of_pre _ _ _ _ _ _ _ (h d)).1)

/-- The reference, which declares no semaphore, from any arguments. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
/-- The same under the precondition of the value claim. -/
theorem frame_ref' : Cert.quiescent_ReferenceIdeal_pre_indices_in_range_bias_finite := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Numbers.lean ====
/-
  Facts about extended reals that the two programs' values meet in: the shifted log-sum-exp, the sum of a thousand
  terms taken in lanes of 128, and what is subtracted from a log-sum-exp at a finite bias.
-/
module

public import Idealize.ShloMosaic.PureOps.Ideal
public import Idealize.ShloMosaic.Lib.IdealHost
public import Idealize.ShloMosaic.PureOps.Ideal.Laws

@[expose] public section

noncomputable section

namespace Cert.Proof.Numbers

open Idealize.ShloMosaic
open scoped BigOperators

/-! ## The log-sum-exp -/

/-- The real number an exponential below infinity is. -/
def expR (x : EReal) : ℝ := if x = ⊥ then 0 else Real.exp x.toReal

/-- Below +∞ the exponential is a real number. -/
theorem exp_of_ne_top {x : EReal} (h : x ≠ ⊤) : Ideal.exp x = (expR x : EReal) := by
  induction x with
  | bot => simp [expR]
  | top => exact absurd rfl h
  | coe r => simp [expR]

/-- It is not negative. -/
theorem expR_nonneg (x : EReal) : 0 ≤ expR x := by
  unfold expR; split
  · exact le_rfl
  · exact (Real.exp_pos _).le

/-- It is positive above −∞. -/
theorem expR_pos {x : EReal} (h : x ≠ ⊥) : 0 < expR x := by
  unfold expR; rw [if_neg h]; exact Real.exp_pos _

/-- An exponential shifted by a real number: the factor comes out. -/
theorem exp_sub_coe {x : EReal} (h : x ≠ ⊤) (r : ℝ) : Ideal.exp (x - (r : EReal)) = ((expR x * Real.exp (-r) : ℝ) : EReal) := by
  induction x with
  | bot => simp [expR]
  | top => exact absurd rfl h
  | coe s =>
    rw [← EReal.coe_sub, Ideal.exp_coe]
    simp [expR, sub_eq_add_neg, Real.exp_add]

/-- A sum of real numbers, taken in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- What the log-sum-exp is shifted by: the row's largest value where that is finite. -/
def shift (M : EReal) : EReal := if max M (-M) < ⊤ then M else 0

/-- A log-sum-exp shifted by its largest value is the plain one. -/
theorem lse_shift {ι : Type} [Fintype ι] (x : ι → EReal) (M : EReal) (hle : ∀ i, x i ≤ M) (hat : M ≠ ⊥ → ∃ i, x i = M) :
    Ideal.log (∑ i, Ideal.exp (x i - shift M)) + shift M = Ideal.log (∑ i, Ideal.exp (x i)) := by
  unfold shift
  split
  · rename_i hM
    induction M with
    | bot => simp at hM
    | top => simp at hM
    | coe r =>
      have hx : ∀ i, x i ≠ ⊤ := fun i h => absurd (hle i) (by rw [h]; simp)
      obtain ⟨j, hj⟩ := hat (EReal.coe_ne_bot r)
      have hpos : 0 < ∑ i, expR (x i) :=
        Finset.sum_pos' (fun i _ => expR_nonneg _) ⟨j, Finset.mem_univ _, expR_pos (by rw [hj]; exact EReal.coe_ne_bot r)⟩
      rw [Finset.sum_congr rfl fun i _ => exp_sub_coe (hx i) r, Finset.sum_congr rfl fun i _ => exp_of_ne_top (hx i), sum_coe, sum_coe, ← Finset.sum_mul,
        Ideal.log_coe, Ideal.log_coe, if_neg (not_le.mpr hpos), if_neg (not_le.mpr (mul_pos hpos (Real.exp_pos _))), ← EReal.coe_add,
        Real.log_mul hpos.ne' (Real.exp_pos _).ne', Real.log_exp]
      simp
  · simp

/-! ## The latent rows -/

/-- A row through the hidden layer. -/
def hidRow (g : Fin 64 → EReal) (W : Fin 64 → Fin 64 → EReal) (b : Fin 64 → EReal) (k : Fin 64) : EReal := ∑ l : Fin 64, g l * W k l + b k

/-- A number, or one in the place of zero. -/
def orOne (n : EReal) : EReal := if n = 0 then 1 else n

/-- A row divided by its norm, by one where the norm is zero. -/
def unitRow (h : Fin 64 → EReal) (k : Fin 64) : EReal := Ideal.div (h k) (orOne (Ideal.sqrt (∑ k : Fin 64, h k * h k)))

/-- As the programs write it: selected where a comparison to zero says so. -/
theorem oneAtZero (n : EReal) :
    Scalar.select (FloatOps.cmpf (F := Ideal) (φ := .f32) .oeq n (Ideal.ofBits .f32 0x00000000#32)) (Ideal.ofBits .f32 0x3F800000#32) n = orOne n := by
  rw [Ideal.ofBits_zero_f32, Ideal.ofBits_one_f32]
  show Scalar.select (BitVec.ofBool (decide (n = 0))) 1 n = _
  unfold orOne
  by_cases h : n = 0
  · rw [if_pos h, decide_eq_true h]; rfl
  · rw [if_neg h, decide_eq_false h]; rfl

/-! ## The bias taken off last -/

/-- Taking off a sum whose second part is finite is taking off the parts in turn. -/
theorem sub_sub_of_finite (a b c : EReal) (h1 : c ≠ ⊤) (h2 : c ≠ ⊥) : a - b - c = a - (b + c) := by
  rw [sub_eq_add_neg, sub_eq_add_neg, sub_eq_add_neg, EReal.neg_add (.inr h1) (.inr h2), sub_eq_add_neg, add_assoc]

/-! ## A thousand terms in 128 lanes -/

/-- What lane `l` adds up of the thousand terms that begin at term `o`: seven terms 128 apart, then a term of the last 128
    unless the seven have it already. -/
def lane (f : ℕ → EReal) (o l : ℕ) : EReal :=
  f (o + (0 + l)) + f (o + (128 + l)) + f (o + (256 + l)) + f (o + (384 + l)) + f (o + (512 + l)) + f (o + (640 + l)) + f (o + (768 + l))
    + (if l < 24 then 0 else f (o + (872 + l)))

/-- The lanes together have every one of the thousand terms once. -/
theorem sum_lane (f : ℕ → EReal) (o : ℕ) : ∑ l ∈ Finset.range 128, lane f o l = ∑ v ∈ Finset.range 1000, f (o + v) := by
  have hlast : ∑ l ∈ Finset.range 128, (if l < 24 then 0 else f (o + (872 + l))) = ∑ l ∈ Finset.range 104, f (o + (896 + l)) := by
    rw [show 128 = 24 + 104 from rfl, Finset.sum_range_add, Finset.sum_eq_zero (fun l hl => if_pos (Finset.mem_range.mp hl)), zero_add]
    exact Finset.sum_congr rfl fun l _ => by rw [if_neg (by omega), show 872 + (24 + l) = 896 + l by omega]
  unfold lane
  simp only [Finset.sum_add_distrib]
  rw [hlast, show 1000 = 128 + 128 + 128 + 128 + 128 + 128 + 128 + 104 from rfl]
  simp only [Finset.sum_range_add (fun v => f (o + v)), Nat.zero_add]

end Cert.Proof.Numbers

end
-- ==== Proof.Lanes.lean ====
/-
  One grid point's share of the exponentials' running sums, element by element over the extended reals.
-/
module

public import proofs.«01_k».proof.Proof.Body
public import proofs.«01_k».proof.Proof.Numbers
public import Idealize.ShloMosaic.PureOps.Ideal.Laws
public import Idealize.ShloMosaic.Lib.ValueIdx
public import Idealize.ShloMosaic.Lib.Pipeline.Value

@[expose] public section

noncomputable section

namespace Cert.Proof.Run

open Cert.KernelIdeal Cert.KernelIdeal.Gen
open Idealize.ShloMosaic
open Idealize.ShloMosaic.ValueIdx
open Cert.Proof.Numbers
open scoped BigOperators

/-- The contraction over the 64 latent coordinates, as the kernel's two shapes write it. -/
theorem mm_chunk (x : FVec Ideal S1024x64 .bf16) (w : FVec Ideal S1000x64 .bf16) (i : Fin 1024) (v : Fin 1000) :
    matmul dot_S1024x64_S1000x64_S1024x1000_1_1_0_0_n_n none x w (constant S1024x1000 .f32 0x00000000#32) (ix2 i v)
      = ∑ k : Fin 64, x (ix2 i k) * w (ix2 v k) := by
  refine (Ideal.matmul_constant_zero_apply _ none _ _ _).trans ?_
  rw [← Equiv.sum_comp (contrEquiv1 dot_S1024x64_S1000x64_S1024x1000_1_1_0_0_n_n 64 rfl rfl).symm]
  refine Finset.sum_congr rfl fun k _ => ?_
  congr 1
  · refine congrArg x (funext fun a => Fin.ext ?_)
    match a with
    | 0 => rfl
    | 1 => rfl
  · refine congrArg w (funext fun a => Fin.ext ?_)
    match a with
    | 0 => rfl
    | 1 => rfl

/-- The exponential of row `i`'s logit for row `v` of a block. -/
def expAt (lat : S1024x64.Idx → EReal) (wt : S4000x64.Idx → EReal) (bias : S1x4000.Idx → EReal) (i : Fin 1024) (v : ℕ) : EReal :=
  if h : v < 4000 then Ideal.exp (∑ k : Fin 64, lat (ix2 i k) * wt (ix2 (⟨v, h⟩ : Fin 4000) k) + bias (ix2 (0 : Fin 1) (⟨v, h⟩ : Fin 4000))) else 0

/-- A chunk's exponentials at an index. -/
theorem chunk_exp (lat : FVec Ideal S1024x64 .bf16) (bias : FVec Ideal S1x4000 .bf16) (wt : S4000x64.Idx → EReal) (o : ℕ) (ho : o + 1000 ≤ 4000)
    (h : S1x4000.Slices ![0, o] S1x1000) (i : Fin 1024) (v : Fin 1000) :
    (exp (addf (truncf .bf16 (matmul (φ₁ := .bf16) (φ₂ := .bf16) dot_S1024x64_S1000x64_S1024x1000_1_1_0_0_n_n none lat
        (truncf .bf16 (chunk (F := Ideal) o ho wt : FVec Ideal S1000x64 .f32) bitsLt_bf16_f32) (constant S1024x1000 .f32 0x00000000#32)) bitsLt_bf16_f32)
      (broadcastTo S1024x1000 (extractStridedSlice S1x1000 ![0, o] bias h) broadcasts_S1x1000_S1024x1000)) : FVec Ideal S1024x1000 .bf16) (ix2 i v)
      = expAt lat wt bias i (o + v.val) := by
  have hv : o + v.val < 4000 := by omega
  rw [expAt, dif_pos hv]
  show Ideal.exp (matmul dot_S1024x64_S1000x64_S1024x1000_1_1_0_0_n_n none lat _ _ (ix2 i v) + _) = _
  rw [mm_chunk]
  congr 2
  refine (broadcastTo_apply _ _ _ (ix2 (0 : Fin 1) v) fun a => ?_).trans (extractStridedSlice_apply _ _ _ _ _ fun a => ?_)
  · match a with
    | 0 => rfl
    | 1 => rfl
  · match a with
    | 0 => rfl
    | 1 => rfl

/-- A slice of 128 columns at an index. -/
theorem cols_apply (x : FVec Ideal S1024x1000 .bf16) (o : ℕ) (h : S1024x1000.Slices ![0, o] S1024x128) (ho : o + 128 ≤ 1000) (i : Fin 1024) (l : Fin 128) :
    extractStridedSlice S1024x128 ![0, o] x h (ix2 i l) = x (ix2 i (⟨o + l.val, by omega⟩ : Fin 1000)) := by
  refine extractStridedSlice_apply _ _ _ _ _ fun a => ?_
  match a with
  | 0 => exact (Nat.zero_add _).symm
  | 1 => rfl

/-- The mask of the lanes whose terms the seven slices have already. -/
theorem mask_apply (i : Fin 1024) (l : Fin 128) :
    cmpi .slt (iota .tc S1024x128 32 [1] iota_S1024x128_d1_w32) (broadcast S1024x128 24#32) (ix2 i l) = if l.val < 24 then 1#1 else 0#1 := by
  show IntOp.cmpi .slt (iota .tc S1024x128 32 [1] iota_S1024x128_d1_w32 (ix2 i l)) 24#32 = _
  rw [iota_single_apply]
  show IntOp.cmpi .slt (BitVec.ofNat 32 l.val) 24#32 = _
  revert l; decide

/-- The sums of a chunk, lane by lane, from its exponentials `E` (and the mask and the zero it is filled with). -/
def laneSum (E : FVec Ideal S1024x1000 .bf16) : FVec Ideal S1024x128 .bf16 :=
  addf (addf (addf (addf (addf (addf (addf (extractStridedSlice S1024x128 ![0, 0] E slices_S1024x1000_o0_0_S1024x128)
      (extractStridedSlice S1024x128 ![0, 128] E slices_S1024x1000_o0_128_S1024x128))
      (extractStridedSlice S1024x128 ![0, 256] E slices_S1024x1000_o0_256_S1024x128))
      (extractStridedSlice S1024x128 ![0, 384] E slices_S1024x1000_o0_384_S1024x128))
      (extractStridedSlice S1024x128 ![0, 512] E slices_S1024x1000_o0_512_S1024x128))
      (extractStridedSlice S1024x128 ![0, 640] E slices_S1024x1000_o0_640_S1024x128))
      (extractStridedSlice S1024x128 ![0, 768] E slices_S1024x1000_o0_768_S1024x128))
    (select (cmpi .slt (iota .tc S1024x128 32 [1] iota_S1024x128_d1_w32) (broadcast S1024x128 24#32))
      (broadcast S1024x128 (Scalar.ofBits .bf16 0x0000#16)) (extractStridedSlice S1024x128 ![0, 872] E slices_S1024x1000_o0_872_S1024x128))

/-- … are the lanes' sums of the chunk's terms. -/
theorem laneSum_apply (E : FVec Ideal S1024x1000 .bf16) (f : ℕ → EReal) (o : ℕ) (i : Fin 1024)
    (hE : ∀ v : Fin 1000, E (ix2 i v) = f (o + v.val)) (l : Fin 128) : laneSum E (ix2 i l) = lane f o l.val := by
  have hc : ∀ (p : ℕ) (h : S1024x1000.Slices ![0, p] S1024x128), p + 128 ≤ 1000 →
      extractStridedSlice S1024x128 ![0, p] E h (ix2 i l) = f (o + (p + l.val)) := fun p h hp =>
    (cols_apply E p h hp i l).trans (hE _)
  unfold laneSum lane
  simp only [addf_apply, select_apply, hc _ _ (by omega : (0 : ℕ) + 128 ≤ 1000), hc _ _ (by omega : (128 : ℕ) + 128 ≤ 1000),
    hc _ _ (by omega : (256 : ℕ) + 128 ≤ 1000), hc _ _ (by omega : (384 : ℕ) + 128 ≤ 1000), hc _ _ (by omega : (512 : ℕ) + 128 ≤ 1000),
    hc _ _ (by omega : (640 : ℕ) + 128 ≤ 1000), hc _ _ (by omega : (768 : ℕ) + 128 ≤ 1000), hc _ _ (by omega : (872 : ℕ) + 128 ≤ 1000)]
  congr 1
  refine (congrArg (Scalar.select · _ _) (mask_apply i l)).trans ?_
  split
  · exact Ideal.ofBits_zero_bf16
  · rfl

/-- A point's block added to the running sums: its four chunks, lane by lane. -/
theorem addBlock_apply (lat : S1024x64.Idx → EReal) (wt : S4000x64.Idx → EReal) (bias : S1x1x4000.Idx → EReal) (acc : S1024x128.Idx → EReal)
    (i : Fin 1024) (l : Fin 128) (f : ℕ → EReal)
    (hf : f = expAt lat wt (shapeCast S1x4000 bias shapeCasts_S1x1x4000_S1x4000) i) :
    addBlock (F := Ideal) lat wt bias acc (ix2 i l)
      = acc (ix2 i l) + lane f 0 l.val + lane f 1000 l.val + lane f 2000 l.val + lane f 3000 l.val := by
  subst hf
  unfold addBlock k1_pay1 k1_pay8 k1_pay9 k1_pay13 k1_pay11 k1_pay12 k1_pay10 k1_pay15 k1_pay17 k1_pay16 k1_pay18 k1_pay14 k1_pay6 k1_pay7
  simp only [shapeCast_self]
  exact congrArg₂ (· + ·) (congrArg₂ (· + ·) (congrArg₂ (· + ·) (congrArg (acc (ix2 i l) + ·)
      (laneSum_apply _ _ 0 i (fun v => chunk_exp _ _ wt 0 (by decide) slices_S1x4000_o0_0_S1x1000 i v) l))
      (laneSum_apply _ _ 1000 i (fun v => chunk_exp _ _ wt 1000 (by decide) slices_S1x4000_o0_1000_S1x1000 i v) l))
      (laneSum_apply _ _ 2000 i (fun v => chunk_exp _ _ wt 2000 (by decide) slices_S1x4000_o0_2000_S1x1000 i v) l))
      (laneSum_apply _ _ 3000 i (fun v => chunk_exp _ _ wt 3000 (by decide) slices_S1x4000_o0_3000_S1x1000 i v) l)

end Cert.Proof.Run

end
-- ==== Proof.Payloads.lean ====
/-
  The latent rows and the loss that the TensorCore kernel stores, element by element over the extended reals.
-/
module

public import proofs.«01_k».proof.Proof.Lanes

@[expose] public section

noncomputable section

namespace Cert.Proof.Run

open Cert.KernelIdeal Cert.KernelIdeal.Gen
open Idealize.ShloMosaic
open Idealize.ShloMosaic.ValueIdx
open Cert.Proof.Numbers
open scoped BigOperators

/-! ## Words -/

/-- A word's last bit is clear when the number is even. -/
theorem even_word (b : BitVec 32) : IntOp.cmpi .eq (b &&& 1#32) 0#32 = if b.toNat % 2 = 0 then 1#1 else 0#1 := by
  have h : (b &&& 1#32 = 0#32) ↔ b.toNat % 2 = 0 := by
    rw [BitVec.toNat_eq, BitVec.toNat_and]
    show b.toNat &&& 1 = 0 ↔ _
    rw [Nat.and_one_is_mod]
  by_cases e : b.toNat % 2 = 0
  · rw [if_pos e, h.mpr e]; rfl
  · rw [if_neg e]
    show BitVec.ofBool ((b &&& 1#32) == 0#32) = 0#1
    rw [beq_eq_false_iff_ne.mpr fun k => e (h.mp k)]; rfl

/-- A lane's number is a word's last seven bits when it is the number's remainder by 128. -/
theorem lane_word (b : BitVec 32) (l : Fin 128) : IntOp.cmpi .eq (BitVec.ofNat 32 l.val) (b &&& 127#32) = if l.val = b.toNat % 128 then 1#1 else 0#1 := by
  have h : (BitVec.ofNat 32 l.val = b &&& 127#32) ↔ l.val = b.toNat % 128 := by
    rw [BitVec.toNat_eq, BitVec.toNat_and, BitVec.toNat_ofNat, Nat.mod_eq_of_lt (by omega)]
    show l.val = b.toNat &&& (2 ^ 7 - 1) ↔ _
    rw [Nat.and_two_pow_sub_one_eq_mod]
  by_cases e : l.val = b.toNat % 128
  · rw [if_pos e, h.mpr e]
    show BitVec.ofBool ((b &&& 127#32) == (b &&& 127#32)) = 1#1
    rw [beq_self_eq_true]; rfl
  · rw [if_neg e]
    show BitVec.ofBool (BitVec.ofNat 32 l.val == (b &&& 127#32)) = 0#1
    rw [beq_eq_false_iff_ne.mpr fun k => e (h.mp k)]; rfl

/-! ## Sums along an axis, and a column -/

/-- The sum along a row of 64. -/
theorem rowSum64 (x : FVec Ideal S1024x64 .f32) (i : Fin 1024) :
    multiReduction .add [1] S1024 x 0x00000000#32 reduces_S1024x64_S1024 (.inl rfl) rfl (ix1 i) = ∑ k : Fin 64, x (ix2 i k) := by
  refine (Ideal.multiReduction_add_single _ _ _ _ _ _).trans (Finset.sum_congr rfl fun k _ => congrArg x (funext fun a => Fin.ext ?_))
  match a with
  | 0 => rfl
  | 1 => rfl

/-- The sum along a row of 128. -/
theorem rowSum128 (x : FVec Ideal S1024x128 .f32) (i : Fin 1024) :
    multiReduction .add [1] S1024 x 0x00000000#32 reduces_S1024x128_S1024 (.inl rfl) rfl (ix1 i) = ∑ l : Fin 128, x (ix2 i l) := by
  refine (Ideal.multiReduction_add_single _ _ _ _ _ _).trans (Finset.sum_congr rfl fun k _ => congrArg x (funext fun a => Fin.ext ?_))
  match a with
  | 0 => rfl
  | 1 => rfl

/-- The sum of a row of 1024. -/
theorem rowSum1024 (x : FVec Ideal S1x1024 .f32) :
    multiReduction .add [1] S1 x 0x00000000#32 reduces_S1x1024_S1 (.inl rfl) rfl (ix1 (0 : Fin 1)) = ∑ i : Fin 1024, x (ix2 (0 : Fin 1) i) := by
  refine (Ideal.multiReduction_add_single _ _ _ _ _ _).trans (Finset.sum_congr rfl fun k _ => congrArg x (funext fun a => Fin.ext ?_))
  match a with
  | 0 => rfl
  | 1 => rfl

/-- A list written as a column holds its elements in order. -/
theorem column_apply {α : Type} (x : S1024.Idx → α) (i : Fin 1024) : shapeCast S1024x1 x shapeCasts_S1024_S1024x1 (ix2 i (0 : Fin 1)) = x (ix1 i) :=
  shapeCast_apply _ _ _ _ (by
    rw [Shape.rowMajor_val_one, Shape.rowMajor_val_two]
    show i.val = i.val * 1 + 0
    omega)

/-- A column repeated across 64 lanes. -/
theorem spread64 {α : Type} (x : S1024x1.Idx → α) (i : Fin 1024) (k : Fin 64) : broadcastTo S1024x64 x broadcasts_S1024x1_S1024x64 (ix2 i k) = x (ix2 i (0 : Fin 1)) :=
  broadcastTo_apply _ _ _ _ fun a => by
    match a with
    | 0 => rfl
    | 1 => rfl

/-- A column repeated across 128 lanes. -/
theorem spread128 {α : Type} (x : S1024x1.Idx → α) (i : Fin 1024) (k : Fin 128) : broadcastTo S1024x128 x broadcasts_S1024x1_S1024x128 (ix2 i k) = x (ix2 i (0 : Fin 1)) :=
  broadcastTo_apply _ _ _ _ fun a => by
    match a with
    | 0 => rfl
    | 1 => rfl

/-! ## The half of a packed row that a name picks -/

/-- The left half of row `i` where the name is even, the right half where it is odd. -/
def half (b : BitVec 32) (x : S1024x128.Idx → EReal) (i : Fin 1024) (l : Fin 64) : EReal :=
  if b.toNat % 2 = 0 then x (ix2 i (⟨l.val, by omega⟩ : Fin 128)) else x (ix2 i (⟨64 + l.val, by omega⟩ : Fin 128))

/-- The kernel's selected halves. -/
def halves (x : FVec Ideal S1024x128 .f32) (b : IVec S1024x1 32) : FVec Ideal S1024x64 .f32 :=
  select (broadcastTo S1024x64 (cmpi .eq (andi b (broadcast S1024x1 1#32)) (broadcast S1024x1 0#32)) broadcasts_S1024x1_S1024x64)
    (extractStridedSlice S1024x64 ![0, 0] x slices_S1024x128_o0_0_S1024x64) (extractStridedSlice S1024x64 ![0, 64] x slices_S1024x128_o0_64_S1024x64)

/-- The half of a packed row that its bit picks. -/
theorem halves_apply (x : FVec Ideal S1024x128 .f32) (b : IVec S1024x1 32) (i : Fin 1024) (l : Fin 64) :
    halves x b (ix2 i l) = half (b (ix2 i (0 : Fin 1))) x i l := by
  unfold halves half
  rw [select_apply, spread64]
  refine (congrArg (Scalar.select · _ _) (even_word (b (ix2 i (0 : Fin 1))))).trans ?_
  split
  · refine extractStridedSlice_apply _ _ slices_S1024x128_o0_0_S1024x64 _ _ fun a => ?_
    match a with
    | 0 => exact (Nat.zero_add _).symm
    | 1 => exact (Nat.zero_add _).symm
  · refine extractStridedSlice_apply _ _ slices_S1024x128_o0_64_S1024x64 _ _ fun a => ?_
    match a with
    | 0 => exact (Nat.zero_add _).symm
    | 1 => rfl

/-! ## The latent rows -/

/-- The hidden layer's product, as the kernel's two shapes write it. -/
theorem mm_hidden (x : FVec Ideal S1024x64 .f32) (w : FVec Ideal S64x64 .f32) (i : Fin 1024) (k : Fin 64) :
    matmul dot_S1024x64_S64x64_S1024x64_1_1_0_0_n_n none x w (constant S1024x64 .f32 0x00000000#32) (ix2 i k) = ∑ l : Fin 64, x (ix2 i l) * w (ix2 k l) := by
  refine (Ideal.matmul_constant_zero_apply _ none _ _ _).trans ?_
  rw [← Equiv.sum_comp (contrEquiv1 dot_S1024x64_S64x64_S1024x64_1_1_0_0_n_n 64 rfl rfl).symm]
  refine Finset.sum_congr rfl fun l _ => ?_
  congr 1
  · refine congrArg x (funext fun a => Fin.ext ?_)
    match a with
    | 0 => rfl
    | 1 => rfl
  · refine congrArg w (funext fun a => Fin.ext ?_)
    match a with
    | 0 => rfl
    | 1 => rfl

/-- A row divided by its norm: the norm's square root compared to zero and replaced by one there. -/
def normed (x : FVec Ideal S1024x64 .f32) : FVec Ideal S1024x64 .f32 :=
  divf x (broadcastTo S1024x64
    (select (cmpf .oeq (sqrt (shapeCast S1024x1 (multiReduction .add [1] S1024 (mulf x x) 0x00000000#32 reduces_S1024x64_S1024 (.inl rfl) rfl) shapeCasts_S1024_S1024x1))
        (broadcast S1024x1 (Scalar.ofBits .f32 0x00000000#32)))
      (broadcast S1024x1 (Scalar.ofBits .f32 0x3F800000#32))
      (sqrt (shapeCast S1024x1 (multiReduction .add [1] S1024 (mulf x x) 0x00000000#32 reduces_S1024x64_S1024 (.inl rfl) rfl) shapeCasts_S1024_S1024x1)))
    broadcasts_S1024x1_S1024x64)

/-- The normalised rows: each divided by its norm, or by one where that is zero. -/
theorem normed_apply (x : FVec Ideal S1024x64 .f32) (i : Fin 1024) (k : Fin 64) : normed x (ix2 i k) = unitRow (fun k => x (ix2 i k)) k := by
  unfold normed unitRow
  rw [divf_apply, spread64, select_apply, cmpf_apply]
  have hs : (sqrt (shapeCast S1024x1 (multiReduction .add [1] S1024 (mulf x x) 0x00000000#32 reduces_S1024x64_S1024 (.inl rfl) rfl) shapeCasts_S1024_S1024x1) : FVec Ideal S1024x1 .f32)
      (ix2 i (0 : Fin 1)) = Ideal.sqrt (∑ k : Fin 64, x (ix2 i k) * x (ix2 i k)) :=
    congrArg Ideal.sqrt ((column_apply _ i).trans (rowSum64 _ i))
  rw [hs]
  exact congrArg (Ideal.div (x (ix2 i k))) (oneAtZero _)

/-- The latent rows that the first point stores. -/
theorem pay2_apply (x : FVec Ideal S1024x128 .f32) (b : IVec S1024x1 32) (w : FVec Ideal S64x64 .f32) (c : FVec Ideal S1x64 .f32) (i : Fin 1024) (k : Fin 64) :
    k1_pay2 (F := Ideal) x b w c (ix2 i k)
      = unitRow (hidRow (half (b (ix2 i (0 : Fin 1))) x i) (fun k l => w (ix2 k l)) (fun k => c (ix2 (0 : Fin 1) k))) k := by
  have h : k1_pay2 (F := Ideal) x b w c
      = normed (addf (matmul dot_S1024x64_S64x64_S1024x64_1_1_0_0_n_n none (halves x b) w (constant S1024x64 .f32 0x00000000#32)) (broadcastTo S1024x64 c broadcasts_S1x64_S1024x64)) := by
    unfold k1_pay2 normed halves
    simp only [shapeCast_self]
  rw [h, normed_apply]
  refine congrArg (unitRow · k) (funext fun k => ?_)
  unfold hidRow
  rw [addf_apply, mm_hidden]
  refine congrArg₂ (· + ·) (Finset.sum_congr rfl fun l _ => by rw [halves_apply]) (broadcastTo_apply _ _ _ _ fun a => ?_)
  match a with
  | 0 => rfl
  | 1 => rfl

/-- What the first grid step stores in the scratch is what it stores as the result. -/
theorem pay3_eq (x : FVec Ideal S1024x128 .f32) (b : IVec S1024x1 32) (w : FVec Ideal S64x64 .f32) (c : FVec Ideal S1x64 .f32) :
    k1_pay3 (F := Ideal) x b w c = k1_pay2 (F := Ideal) x b w c := by
  unfold k1_pay3
  exact shapeCast_self _ _

/-- The running sums start at zero. -/
theorem pay4_apply (y : S1024x128.Idx) : k1_pay4 (F := Ideal) y = 0 := by
  unfold k1_pay4
  rw [shapeCast_self]
  exact Ideal.ofBits_zero_f32

/-! ## The loss -/

/-- The loss that the last point stores. -/
theorem pay5_apply (lat : FVec Ideal S1024x64 .f32) (x : FVec Ideal S1024x128 .f32) (b : IVec S1024x1 32) (z : FVec Ideal S1024x128 .f32) (s : FVec Ideal S1024x128 .f32) :
    k1_pay5 (F := Ideal) lat x b b z s (ix2 (0 : Fin 1) (0 : Fin 1))
      = Ideal.div (∑ i : Fin 1024, (Ideal.log (∑ l : Fin 128, s (ix2 i l)) - (∑ k : Fin 64, lat (ix2 i k) * half (b (ix2 i (0 : Fin 1))) x i k)
          - z (ix2 i (⟨(b (ix2 i (0 : Fin 1))).toNat % 128, Nat.mod_lt _ (by decide)⟩ : Fin 128)))) (Ideal.ofBits .f32 0x44800000#32) := by
  have h : k1_pay5 (F := Ideal) lat x b b z s
      = broadcast S1x1 (Scalar.divf (extractAt ![0, 0] (shapeCast S1x1 (multiReduction .add [1] S1 (shapeCast S1x1024
          (subf (subf (log (multiReduction .add [1] S1024 s 0x00000000#32 reduces_S1024x128_S1024 (.inl rfl) rfl))
            (multiReduction .add [1] S1024 (mulf lat (halves x b)) 0x00000000#32 reduces_S1024x64_S1024 (.inl rfl) rfl))
            (multiReduction .add [1] S1024 (select (cmpi .eq (iota .tc S1024x128 32 [1] iota_S1024x128_d1_w32)
              (broadcastTo S1024x128 (andi b (broadcast S1024x1 127#32)) broadcasts_S1024x1_S1024x128)) z (broadcast S1024x128 (Scalar.ofBits .f32 0x00000000#32)))
              0x00000000#32 reduces_S1024x128_S1024 (.inl rfl) rfl)) shapeCasts_S1024_S1x1024) 0x00000000#32 reduces_S1x1024_S1 (.inl rfl) rfl) shapeCasts_S1_S1x1) inpos_S1x1_p0_0)
          (Scalar.ofBits .f32 0x44800000#32)) := by
    unfold k1_pay5 halves
    simp only [shapeCast_self]
  rw [h]
  show Ideal.div _ (Ideal.ofBits .f32 0x44800000#32) = _
  refine congrArg (Ideal.div · _) ?_
  refine (shapeCast_apply _ _ _ (ix1 (0 : Fin 1)) rfl).trans ((rowSum1024 _).trans (Finset.sum_congr rfl fun i _ => ?_))
  refine (shapeCast_apply _ _ _ (ix1 i) (by
    rw [Shape.rowMajor_val_one, Shape.rowMajor_val_two]
    show i.val = 0 * 1024 + i.val
    omega)).trans ?_
  rw [subf_apply, subf_apply]
  refine congrArg₂ (· - ·) (congrArg₂ (· - ·) (congrArg Ideal.log (rowSum128 _ i)) ((rowSum64 _ i).trans (Finset.sum_congr rfl fun k _ => ?_))) ((rowSum128 _ i).trans ?_)
  · rw [mulf_apply, halves_apply]
  · have e : ∀ l : Fin 128, (select (cmpi .eq (iota .tc S1024x128 32 [1] iota_S1024x128_d1_w32)
              (broadcastTo S1024x128 (andi b (broadcast S1024x1 127#32)) broadcasts_S1024x1_S1024x128)) z (broadcast S1024x128 (Scalar.ofBits (F := Ideal) .f32 0x00000000#32))) (ix2 i l)
          = if l.val = (b (ix2 i (0 : Fin 1))).toNat % 128 then z (ix2 i l) else 0 := fun l => by
      rw [select_apply]
      have hw : cmpi .eq (iota .tc S1024x128 32 [1] iota_S1024x128_d1_w32)
              (broadcastTo S1024x128 (andi b (broadcast S1024x1 127#32)) broadcasts_S1024x1_S1024x128) (ix2 i l)
          = if l.val = (b (ix2 i (0 : Fin 1))).toNat % 128 then 1#1 else 0#1 := by
        show IntOp.cmpi .eq (iota .tc S1024x128 32 [1] iota_S1024x128_d1_w32 (ix2 i l)) (broadcastTo S1024x128 (andi b (broadcast S1024x1 127#32)) broadcasts_S1024x1_S1024x128 (ix2 i l)) = _
        rw [iota_single_apply, spread128]
        exact lane_word _ l
      rw [hw]
      split
      · rfl
      · exact Ideal.ofBits_zero_f32
    rw [Finset.sum_congr rfl fun l _ => e l, Finset.sum_eq_single (⟨(b (ix2 i (0 : Fin 1))).toNat % 128, Nat.mod_lt _ (by decide)⟩ : Fin 128)]
    · exact if_pos rfl
    · exact fun l _ hl => if_neg fun k => hl (Fin.ext k)
    · exact fun k => absurd (Finset.mem_univ _) k

end Cert.Proof.Run

end
-- ==== Proof.Formula.lean ====
/-
  What both programs compute, as formulas over the extended reals: the latent rows, the logits, the mean loss.
-/
module

public import proofs.«01_k».proof.Proof.Numbers
public import Idealize.ShloMosaic.Lib.ValueIdx

@[expose] public section

noncomputable section

namespace Cert.Proof.Numbers

open Idealize.ShloMosaic
open Idealize.ShloMosaic.ValueIdx
open scoped BigOperators

/-- The node that entry `i` of a list of names gives. -/
def node (x : (⟨1, ![1024]⟩ : Shape).Idx → BitVec 32) (h : ∀ j, (x j).toNat < 100000) (i : Fin 1024) : Fin 100000 := ⟨(x (ix1 i)).toNat, h _⟩

/-- The latent row of entry `i`: its node's embedding through the hidden layer, divided by its norm. -/
def latent (E : (⟨2, ![100000, 64]⟩ : Shape).Idx → EReal) (W : (⟨2, ![64, 64]⟩ : Shape).Idx → EReal) (b : (⟨1, ![64]⟩ : Shape).Idx → EReal)
    (s : Fin 1024 → Fin 100000) (i : Fin 1024) (k : Fin 64) : EReal :=
  unitRow (hidRow (fun l => E (ix2 (s i) l)) (fun k l => W (ix2 k l)) (fun k => b (ix1 k))) k

/-- Entry `i`'s logit for node `v`. -/
def logit (L : Fin 1024 → Fin 64 → EReal) (U : (⟨2, ![100000, 64]⟩ : Shape).Idx → EReal) (c : (⟨1, ![100000]⟩ : Shape).Idx → EReal) (i : Fin 1024) (v : Fin 100000) : EReal :=
  ∑ k : Fin 64, L i k * U (ix2 v k) + c (ix1 v)

/-- The loss: the mean over the entries of the logits' log-sum-exp less the target's logit. -/
def meanLoss (g : Fin 1024 → Fin 100000 → EReal) (t : Fin 1024 → Fin 100000) : EReal :=
  Ideal.div (∑ i : Fin 1024, (Ideal.log (∑ v : Fin 100000, Ideal.exp (g i v)) - g i (t i))) (Ideal.ofBits .f32 0x44800000#32)

end Cert.Proof.Numbers

end
-- ==== Proof.Tables.lean ====
/-
  What the rows that the SparseCore gathers hold, entry by entry: a name's own row lies in the half of its packed row
  that the name's last bit picks, and a name's bias in the lane that its last seven bits name.
-/
module

public import proofs.«01_k».proof.Proof.Values
public import proofs.«01_k».proof.Proof.Payloads
public import proofs.«01_k».proof.Proof.Formula
public import Idealize.ShloMosaic.Lib.KernelVsHost

@[expose] public section

noncomputable section

namespace Cert.Proof.Run

open Cert.KernelIdeal Cert.KernelIdeal.Gen
open Idealize.ShloMosaic
open Idealize.ShloMosaic.ValueIdx
open Cert.Proof.Numbers

/-- The left half of a packed row is an even row of the table … -/
theorem packTab_left (x : FVec Ideal S100000x64 .f32) (r : Fin 50000) (c : Fin 64) :
    packTab x (ix2 r (⟨c.val, by omega⟩ : Fin 128)) = x (ix2 (⟨2 * r.val, by omega⟩ : Fin 100000) c) := by
  unfold packTab
  refine (concatenate_pair_apply_left (t := S50000x128) (s₁ := S50000x64) (s₂ := S50000x64) 1 _ _ concatenates_S50000x64_S50000x64_S50000x128_d1 _ rfl (ix2 r c) fun b => ?_).trans ?_
  · match b with
    | 0 => rfl
    | 1 => rfl
  · refine congrArg x (funext fun a => Fin.ext ?_)
    match a with
    | 0 => exact Nat.zero_add _
    | 1 => exact (Nat.zero_add _).trans (Nat.one_mul _)

/-- … and the right half the odd row after it. -/
theorem packTab_right (x : FVec Ideal S100000x64 .f32) (r : Fin 50000) (c : Fin 64) :
    packTab x (ix2 r (⟨64 + c.val, by omega⟩ : Fin 128)) = x (ix2 (⟨1 + 2 * r.val, by omega⟩ : Fin 100000) c) := by
  unfold packTab
  refine (concatenate_pair_apply_right (t := S50000x128) (s₁ := S50000x64) (s₂ := S50000x64) 1 _ _ concatenates_S50000x64_S50000x64_S50000x128_d1 (ix2 r (⟨64 + c.val, by omega⟩ : Fin 128)) rfl rfl (ix2 r c) (fun b hb => ?_) (Nat.add_comm c.val 64)).trans ?_
  · match b with
    | 0 => rfl
    | 1 => exact absurd rfl hb
  · refine congrArg x (funext fun a => Fin.ext ?_)
    match a with
    | 0 => rfl
    | 1 => exact (Nat.zero_add _).trans (Nat.one_mul _)

/-- A quotient of a name, as a number. -/
theorem fdiv_toNat (x : IVec S1024 32) {k : ℕ} (hk : 0 < k) (hk' : k < 2 ^ 31) (j : S1024.Idx) (hx : (x j).toNat < 100000) :
    (fdiv x (BitVec.ofNat 32 k) j).toNat = (x j).toNat / k := by
  rw [fdiv_apply x hk hk' j (by omega), BitVec.toNat_ofNat, Nat.mod_eq_of_lt]
  exact lt_of_le_of_lt (Nat.div_le_self _ _) (by omega)

/-- The picked half of the gathered packed row is the name's own row of the table. -/
theorem half_gath (x : FVec Ideal S100000x64 .f32) (s : IVec S1024 32) (h : ∀ j, (s j).toNat < 100000) (i : Fin 1024) (l : Fin 64) :
    half (s (ix1 i)) (gath (n := 50000) (by decide) (packTab x) (fdiv s 2#32)) i l = x (ix2 (node s h i) l) := by
  have hs := h (ix1 i)
  have hq : (fdiv s 2#32 (ix1 i)).toNat % 50000 = (s (ix1 i)).toNat / 2 := by
    rw [show (2#32 : BitVec 32) = BitVec.ofNat 32 2 from rfl, fdiv_toNat s (by decide) (by decide) _ hs]
    exact Nat.mod_eq_of_lt (by omega)
  have hr : (⟨(fdiv s 2#32 (ix1 i)).toNat % 50000, Nat.mod_lt _ (by decide)⟩ : Fin 50000) = ⟨(s (ix1 i)).toNat / 2, by omega⟩ := Fin.ext hq
  unfold half
  split
  · rename_i e
    show packTab x (ix2 (⟨(fdiv s 2#32 (ix1 i)).toNat % 50000, _⟩ : Fin 50000) (⟨l.val, _⟩ : Fin 128)) = _
    rw [hr, packTab_left]
    exact congrArg (fun r : Fin 100000 => x (ix2 r l)) (Fin.ext (by show 2 * ((s (ix1 i)).toNat / 2) = (s (ix1 i)).toNat; omega))
  · rename_i e
    show packTab x (ix2 (⟨(fdiv s 2#32 (ix1 i)).toNat % 50000, _⟩ : Fin 50000) (⟨64 + l.val, _⟩ : Fin 128)) = _
    rw [hr, packTab_right]
    exact congrArg (fun r : Fin 100000 => x (ix2 r l)) (Fin.ext (by show 1 + 2 * ((s (ix1 i)).toNat / 2) = (s (ix1 i)).toNat; omega))

/-- The name's lane of the gathered row of biases is the name's own bias. -/
theorem bias_gath (c : FVec Ideal S100000 .f32) (v : FVec Ideal S_ .f32) (s : IVec S1024 32) (h : ∀ j, (s j).toNat < 100000) (i : Fin 1024) :
    gath (n := 782) (by decide) (shapeCast S782x128 (pad S100096 ![0] ![96] ![0] c v pads_S100000_S100096_0960 h_S_) shapeCasts_S100096_S782x128) (fdiv s 128#32)
      (ix2 i (⟨(s (ix1 i)).toNat % 128, Nat.mod_lt _ (by decide)⟩ : Fin 128)) = c (ix1 (node s h i)) := by
  have hs := h (ix1 i)
  have hq : (fdiv s 128#32 (ix1 i)).toNat % 782 = (s (ix1 i)).toNat / 128 := by
    rw [show (128#32 : BitVec 32) = BitVec.ofNat 32 128 from rfl, fdiv_toNat s (by decide) (by decide) _ hs]
    exact Nat.mod_eq_of_lt (by omega)
  show shapeCast S782x128 _ _ (ix2 (⟨(fdiv s 128#32 (ix1 i)).toNat % 782, _⟩ : Fin 782) (⟨(s (ix1 i)).toNat % 128, _⟩ : Fin 128)) = _
  refine (shapeCast_apply _ _ _ (ix1 (⟨(s (ix1 i)).toNat, by omega⟩ : Fin 100096)) ?_).trans ?_
  · rw [Shape.rowMajor_val_one, Shape.rowMajor_val_two]
    show (s (ix1 i)).toNat = (fdiv s 128#32 (ix1 i)).toNat % 782 * 128 + (s (ix1 i)).toNat % 128
    rw [hq]; omega
  · refine pad_apply_of_inside _ _ _ _ _ _ _ _ (ix1 (node s h i)) fun a => ?_
    match a with
    | 0 =>
      show (s (ix1 i)).toNat = 0 + (s (ix1 i)).toNat * (0 + 1)
      omega

end Cert.Proof.Run

end
-- ==== Proof.Blocks.lean ====
/-
  What the TensorCore kernel's windows read of the arrays behind them, and what its two outputs hold at the end.
-/
module

public import proofs.«01_k».proof.Proof.Main
public import Idealize.ShloMosaic.Lib.Pipeline.Value

@[expose] public section

noncomputable section

namespace Cert.Proof.Run

open Cert.KernelIdeal Cert.KernelIdeal.Gen
open Idealize.ShloMosaic
open Idealize.ShloMosaic.TcCoe
open Idealize.ShloMosaic.ValueIdx
open Idealize.ShloMosaic.Pipeline (Window Dat)

variable {F : FTy → Type} [FloatOps F]
variable (V : (c : Dev nD) → (b : Ref sig .tc) → Buf (Elt F) ((c : Thread nD τ).loc b))

/-- The block of the rows gathered from the embedding is the whole array … -/
theorem iblk0 (c : Dev nD) (t : Fin cfg1.N) : iblk V c 0 t = (V c main_v11_0 : S1024x128.Idx → Elt F .f32) :=
  funext fun j => congrArg (V c main_v11_0 : S1024x128.Idx → Elt F .f32) (funext fun a => Fin.ext (Window.rect_emb_val_of_index_zero (cfg1.win 0) t a (by
    match a with
    | 0 => rfl
    | 1 => rfl) j))
/-- … of the source names … -/
theorem iblk1 (c : Dev nD) (t : Fin cfg1.N) : iblk V c 1 t = (V c main_v13 : S1024x1.Idx → Elt F .i32) :=
  funext fun j => congrArg (V c main_v13 : S1024x1.Idx → Elt F .i32) (funext fun a => Fin.ext (Window.rect_emb_val_of_index_zero (cfg1.win 1) t a (by
    match a with
    | 0 => rfl
    | 1 => rfl) j))
/-- … of the hidden layer … -/
theorem iblk2 (c : Dev nD) (t : Fin cfg1.N) : iblk V c 2 t = (V c main_arg3 : S64x64.Idx → Elt F .f32) :=
  funext fun j => congrArg (V c main_arg3 : S64x64.Idx → Elt F .f32) (funext fun a => Fin.ext (Window.rect_emb_val_of_index_zero (cfg1.win 2) t a (by
    match a with
    | 0 => rfl
    | 1 => rfl) j))
/-- … of its bias … -/
theorem iblk3 (c : Dev nD) (t : Fin cfg1.N) : iblk V c 3 t = (V c main_v14 : S1x64.Idx → Elt F .f32) :=
  funext fun j => congrArg (V c main_v14 : S1x64.Idx → Elt F .f32) (funext fun a => Fin.ext (Window.rect_emb_val_of_index_zero (cfg1.win 3) t a (by
    match a with
    | 0 => rfl
    | 1 => rfl) j))
/-- … of the rows gathered from the output layer … -/
theorem iblk6 (c : Dev nD) (t : Fin cfg1.N) : iblk V c 6 t = (V c main_v11_1 : S1024x128.Idx → Elt F .f32) :=
  funext fun j => congrArg (V c main_v11_1 : S1024x128.Idx → Elt F .f32) (funext fun a => Fin.ext (Window.rect_emb_val_of_index_zero (cfg1.win 6) t a (by
    match a with
    | 0 => rfl
    | 1 => rfl) j))
/-- … of the target names … -/
theorem iblk7 (c : Dev nD) (t : Fin cfg1.N) : iblk V c 7 t = (V c main_v15 : S1024x1.Idx → Elt F .i32) :=
  funext fun j => congrArg (V c main_v15 : S1024x1.Idx → Elt F .i32) (funext fun a => Fin.ext (Window.rect_emb_val_of_index_zero (cfg1.win 7) t a (by
    match a with
    | 0 => rfl
    | 1 => rfl) j))
/-- … and of the gathered biases. -/
theorem iblk8 (c : Dev nD) (t : Fin cfg1.N) : iblk V c 8 t = (V c main_v11_2 : S1024x128.Idx → Elt F .f32) :=
  funext fun j => congrArg (V c main_v11_2 : S1024x128.Idx → Elt F .f32) (funext fun a => Fin.ext (Window.rect_emb_val_of_index_zero (cfg1.win 8) t a (by
    match a with
    | 0 => rfl
    | 1 => rfl) j))

/-- Point `t` reads the output layer from its `t`-th block of rows … -/
theorem row4 : ∀ t : Fin cfg1.N, (cfg1.win 4).index t 0 = t.val := by
  show ∀ t : Fin grid1.N, _
  decide +kernel
/-- … and the `t`-th row of the biases. -/
theorem row5 : ∀ t : Fin cfg1.N, (cfg1.win 5).index t 0 = t.val := by
  show ∀ t : Fin grid1.N, _
  decide +kernel

/-- Point `t`'s block of the output layer is its rows from `4000 t` on … -/
theorem iblk4 (c : Dev nD) (t : Fin cfg1.N) (r : Fin 4000) (k : Fin 64) (hr : t.val * 4000 + r.val < 100000) :
    (iblk V c 4 t : S4000x64.Idx → Elt F .f32) (ix2 r k) = (V c main_arg5 : S100000x64.Idx → Elt F .f32) (ix2 (⟨t.val * 4000 + r.val, hr⟩ : Fin 100000) k) := by
  refine congrArg (V c main_arg5 : S100000x64.Idx → Elt F .f32) (funext fun a => Fin.ext ?_)
  match a with
  | 0 => exact (Window.rect_emb_val (cfg1.win 4) t (ix2 r k) 0).trans (by rw [row4]; rfl)
  | 1 => exact Window.rect_emb_val_of_index_zero (cfg1.win 4) t 1 rfl (ix2 r k)
/-- … and its block of the biases is row `t` of them. -/
theorem iblk5 (c : Dev nD) (t : Fin cfg1.N) (v : Fin 4000) (ht : t.val < 25) :
    (iblk V c 5 t : S1x1x4000.Idx → Elt F .f32) (ix3 (0 : Fin 1) (0 : Fin 1) v) = (V c main_v12 : S25x1x4000.Idx → Elt F .f32) (ix3 (⟨t.val, ht⟩ : Fin 25) (0 : Fin 1) v) := by
  refine congrArg (V c main_v12 : S25x1x4000.Idx → Elt F .f32) (funext fun a => Fin.ext ?_)
  match a with
  | 0 => exact (Window.rect_emb_val (cfg1.win 5) t (ix3 (0 : Fin 1) (0 : Fin 1) v) 0).trans (by rw [row5]; exact Nat.mul_one _)
  | 1 => exact Window.rect_emb_val_of_index_zero (cfg1.win 5) t 1 rfl (ix3 (0 : Fin 1) (0 : Fin 1) v)
  | 2 => exact Window.rect_emb_val_of_index_zero (cfg1.win 5) t 2 rfl (ix3 (0 : Fin 1) (0 : Fin 1) v)

/-- Any value of the first output's shape is its block at a point, read from an array that holds it … -/
theorem cut9 (G : S1024x64.Idx → Elt F .f32) (t : Fin cfg1.N) :
    (cfg1.win 9).cut (grid1.coords t) G = ((cfg1.win 9).blk t).view.read (Elt F) (G : Buf (Elt F) (((0 : Dev nD).tc : Thread nD τ).loc main_v16_0)) := by
  refine funext fun j => ?_
  show G _ = G _
  refine congrArg G (funext fun a => Fin.ext ?_)
  exact (Window.rect_emb_val_of_index_zero (cfg1.win 9) t a (by
    match a with
    | 0 => rfl
    | 1 => rfl) j).symm
/-- … and of the second's. -/
theorem cut10 (G : S1x1.Idx → Elt F .f32) (t : Fin cfg1.N) :
    (cfg1.win 10).cut (grid1.coords t) G = ((cfg1.win 10).blk t).view.read (Elt F) (G : Buf (Elt F) (((0 : Dev nD).tc : Thread nD τ).loc main_v16_1)) := by
  refine funext fun j => ?_
  show G _ = G _
  refine congrArg G (funext fun a => Fin.ext ?_)
  exact (Window.rect_emb_val_of_index_zero (cfg1.win 10) t a (by
    match a with
    | 0 => rfl
    | 1 => rfl) j).symm

/-- Every place of the first output lies in each of its blocks … -/
theorem in9 (t : Fin cfg1.N) (i : S1024x64.Idx) : i ∈ ((cfg1.win 9).blk t).view.set := by
  show i ∈ ((View.whole main_v16_0).slice (win1_9.rect t)).set
  rw [View.set_slice_whole, Rect.mem_set_unit]
  intro a
  match a with
  | 0 =>
    have h : (i 0).val < 1024 := (i 0).isLt
    exact ⟨Nat.zero_le _, h⟩
  | 1 =>
    have h : (i 1).val < 64 := (i 1).isLt
    exact ⟨Nat.zero_le _, h⟩
/-- … and of the second. -/
theorem in10 (t : Fin cfg1.N) (i : S1x1.Idx) : i ∈ ((cfg1.win 10).blk t).view.set := by
  show i ∈ ((View.whole main_v16_1).slice (win1_10.rect t)).set
  rw [View.set_slice_whole, Rect.mem_set_unit]
  intro a
  match a with
  | 0 =>
    have h : (i 0).val < 1 := (i 0).isLt
    exact ⟨Nat.zero_le _, h⟩
  | 1 =>
    have h : (i 1).val < 1 := (i 1).isLt
    exact ⟨Nat.zero_le _, h⟩

/-- The first output holds the latent rows at the end … -/
theorem arr9 (c : Dev nD) : (dat V c).arrAt 9 cfg1.N = latV V c :=
  Dat.arrAt_eq_of_cover (dat V c) 9 (latV V c) (fun t _ => cut9 (latV V c) t)
    (fun i => ⟨pnt 24 (by decide), by rw [flush9]; rfl, in9 _ i⟩)

/-- … and the second the loss. -/
theorem arr10 (c : Dev nD) : (dat V c).arrAt 10 cfg1.N = lossV V c :=
  Dat.arrAt_eq_of_cover (dat V c) 10 (lossV V c) (fun t _ => cut10 (lossV V c) t)
    (fun i => ⟨pnt 24 (by decide), by rw [flush10]; rfl, in10 _ i⟩)

end Cert.Proof.Run

end
-- ==== Proof.KernelValue.lean ====
/-
  The kernel's two results, over the extended reals: the latent rows and the mean loss of the arguments.
-/
module

public import proofs.«01_k».proof.Proof.Tables
public import proofs.«01_k».proof.Proof.Blocks

@[expose] public section

noncomputable section

namespace Cert.Proof.Run

open Cert.KernelIdeal Cert.KernelIdeal.Gen
open Idealize.ShloMosaic
open Idealize.ShloMosaic.TcCoe
open Idealize.ShloMosaic.ValueIdx
open Cert.Proof.Numbers
open scoped BigOperators

variable (m : (ℓ : Loc nD τ sig) → Buf (Elt Ideal) ℓ) (d : Dev nD)

/-- The arguments, as arrays of words and of numbers. -/
abbrev src : IVec S1024 32 := m ((d.tc : Thread nD τ).loc main_arg0)
abbrev tgt : IVec S1024 32 := m ((d.tc : Thread nD τ).loc main_arg1)
abbrev emb : FVec Ideal S100000x64 .f32 := m ((d.tc : Thread nD τ).loc main_arg2)
abbrev wh : FVec Ideal S64x64 .f32 := m ((d.tc : Thread nD τ).loc main_arg3)
abbrev bh : FVec Ideal S64 .f32 := m ((d.tc : Thread nD τ).loc main_arg4)
abbrev wo : FVec Ideal S100000x64 .f32 := m ((d.tc : Thread nD τ).loc main_arg5)
abbrev bo : FVec Ideal S100000 .f32 := m ((d.tc : Thread nD τ).loc main_arg6)

/-- The gathered rows and the other inputs of the second kernel, as terms of the arguments. -/
theorem in0 : W3 m d main_v11_0 = gath (n := 50000) (by decide) (packTab (emb m d)) (fdiv (src m d) 2#32) := by
  refine (V3_11_0 m d).trans ?_
  unfold g0
  rw [(V1_tables m d).1, (V1_lists m d).1]
/-- The rows gathered from the packed output weights. -/
theorem in6 : W3 m d main_v11_1 = gath (n := 50000) (by decide) (packTab (wo m d)) (fdiv (tgt m d) 2#32) := by
  refine (V3_11_1 m d).trans ?_
  unfold g1
  rw [(V1_tables m d).2.1, (V1_lists m d).2.1]
/-- The rows gathered from the output bias, 128 to a row. -/
theorem in8 : W3 m d main_v11_2 = gath (n := 782) (by decide) (shapeCast S782x128 (pad S100096 ![0] ![96] ![0] (bo m d)
    (sitofp .f32 (constantI S_ 32 0#32)) pads_S100000_S100096_0960 h_S_) shapeCasts_S100096_S782x128) (fdiv (tgt m d) 128#32) := by
  refine (V3_11_2 m d).trans ?_
  unfold g2
  rw [(V1_tables m d).2.2, (V1_lists m d).2.2]

/-- The latent rows that the kernel stores. -/
theorem latV_apply (hs : ∀ j, (src m d j).toNat < 100000) (i : Fin 1024) (k : Fin 64) :
    latV (F := Ideal) (W3 m) d (ix2 i k) = latent (emb m d) (wh m d) (bh m d) (node (src m d) hs) i k := by
  unfold latV
  rw [iblk0, iblk1, iblk2, iblk3, in0, show (W3 m d main_v13 : S1024x1.Idx → BitVec 32) = shapeCast S1024x1 (src m d) shapeCasts_S1024_S1024x1 from V3_13 m d,
    show (W3 m d main_v14 : S1x64.Idx → EReal) = shapeCast S1x64 (bh m d) shapeCasts_S64_S1x64 from V3_14 m d,
    show (W3 m d main_arg3 : S64x64.Idx → EReal) = wh m d from V3_args m d _ (by decide)]
  refine (pay2_apply _ _ _ _ i k).trans ?_
  unfold latent
  rw [column_apply]
  refine congrArg (unitRow · k) ?_
  have e1 : half (src m d (ix1 i)) (gath (n := 50000) (by decide) (packTab (emb m d)) (fdiv (src m d) 2#32)) i = fun l => emb m d (ix2 (node (src m d) hs i) l) :=
    funext fun l => half_gath (emb m d) (src m d) hs i l
  have e2 : (fun k : Fin 64 => shapeCast S1x64 (bh m d) shapeCasts_S64_S1x64 (ix2 (0 : Fin 1) k)) = fun k => bh m d (ix1 k) :=
    funext fun k => shapeCast_apply _ _ _ _ (by
      rw [Shape.rowMajor_val_one, Shape.rowMajor_val_two]
      show k.val = 0 * 64 + k.val
      omega)
  rw [e1, e2]

/-- The latent rows in the scratch are those in the result. -/
theorem latS_eq : latS (F := Ideal) (W3 m) d = latV (F := Ideal) (W3 m) d := pay3_eq _ _ _ _

/-- The exponential of the logit for the `v`-th node, nothing past the last. -/
def expLogit (g : Fin 100000 → EReal) (v : ℕ) : EReal := if h : v < 100000 then Ideal.exp (g ⟨v, h⟩) else 0

/-- A point's exponentials are those of its 4000 nodes. -/
theorem expAt_block (L : S1024x64.Idx → EReal) (t : Fin cfg1.N) (i : Fin 1024) (v : ℕ) (hv : v < 4000) :
    expAt L (iblk (W3 m) d 4 t) (shapeCast S1x4000 (iblk (W3 m) d 5 t : S1x1x4000.Idx → EReal) shapeCasts_S1x1x4000_S1x4000) i v
      = expLogit (logit (fun i k => L (ix2 i k)) (wo m d) (bo m d) i) (t.val * 4000 + v) := by
  have ht : t.val < 25 := lt_of_lt_of_eq t.isLt N_1
  have hn : t.val * 4000 + v < 100000 := by omega
  unfold expAt expLogit logit
  rw [dif_pos hv, dif_pos hn]
  refine congrArg Ideal.exp (congrArg₂ (· + ·) (Finset.sum_congr rfl fun k _ => congrArg (L (ix2 i k) * ·) ?_) ?_)
  · refine (iblk4 (W3 m) d t ⟨v, hv⟩ k hn).trans ?_
    rw [show (W3 m d main_arg5 : S100000x64.Idx → EReal) = wo m d from V3_args m d _ (by decide)]
  · refine (shapeCast_apply _ _ _ (ix3 (0 : Fin 1) (0 : Fin 1) (⟨v, hv⟩ : Fin 4000)) ?_).trans ((iblk5 (W3 m) d t ⟨v, hv⟩ ht).trans ?_)
    · rw [Shape.rowMajor_val_three, Shape.rowMajor_val_two]
      show (0 * 1 + 0) * 4000 + v = 0 * 4000 + v
      omega
    · rw [show (W3 m d main_v12 : S25x1x4000.Idx → EReal) = shapeCast S25x1x4000 (bo m d) shapeCasts_S100000_S25x1x4000 from V3_12 m d]
      refine shapeCast_apply _ _ _ _ ?_
      rw [Shape.rowMajor_val_three, Shape.rowMajor_val_one]
      show t.val * 4000 + v = (t.val * 1 + 0) * 4000 + v
      omega

/-- A sum over the lanes of a chunk is the sum over its thousand terms. -/
theorem lanes_chunk (f : ℕ → EReal) (o : ℕ) : ∑ l : Fin 128, lane f o l.val = ∑ v ∈ Finset.range 1000, f (o + v) :=
  (Fin.sum_univ_eq_sum_range (fun l => lane f o l) 128).trans (sum_lane f o)

/-- Four thousand terms are four times a thousand. -/
theorem four_chunks (f : ℕ → EReal) : ∑ v ∈ Finset.range 4000, f v = ∑ v ∈ Finset.range 1000, f (0 + v)
    + (∑ v ∈ Finset.range 1000, f (1000 + v) + (∑ v ∈ Finset.range 1000, f (2000 + v) + ∑ v ∈ Finset.range 1000, f (3000 + v))) := by
  rw [show 4000 = 1000 + 1000 + 1000 + 1000 from rfl, Finset.sum_range_add, Finset.sum_range_add, Finset.sum_range_add, add_assoc, add_assoc]
  simp only [Nat.zero_add, Nat.reduceAdd]

/-- After `n` points a row's running sums add up to the exponentials of its logits for the first `4000 n` nodes. -/
theorem accV_sum (i : Fin 1024) : ∀ n : ℕ, n ≤ 25 → ∑ l : Fin 128, accV (F := Ideal) (W3 m) d n (ix2 i l)
    = ∑ v ∈ Finset.range (n * 4000), expLogit (logit (fun i k => latV (F := Ideal) (W3 m) d (ix2 i k)) (wo m d) (bo m d) i) v
  | 0, _ => by
    rw [Nat.zero_mul, Finset.sum_range_zero]
    exact Finset.sum_eq_zero fun l _ => pay4_apply _
  | n + 1, h => by
    have hn : n < 25 := h
    have ih := accV_sum i n hn.le
    have e : accV (F := Ideal) (W3 m) d (n + 1) = addBlock (latV (F := Ideal) (W3 m) d) (iblk (W3 m) d 4 (pnt n hn)) (iblk (W3 m) d 5 (pnt n hn)) (accV (F := Ideal) (W3 m) d n) := by
      rw [← latS_eq]; exact accV_succ (W3 m) d (pnt n hn)
    rw [e, Finset.sum_congr rfl fun l _ => addBlock_apply _ _ _ _ i l _ rfl]
    simp only [Finset.sum_add_distrib, lanes_chunk]
    rw [ih, Nat.succ_mul, Finset.sum_range_add _ (n * 4000) 4000, add_assoc, add_assoc, add_assoc]
    refine congrArg₂ (· + ·) rfl ?_
    have hb : ∀ o : ℕ, o + 1000 ≤ 4000 → ∑ v ∈ Finset.range 1000, expAt (latV (F := Ideal) (W3 m) d) (iblk (W3 m) d 4 (pnt n hn))
          (shapeCast S1x4000 (iblk (W3 m) d 5 (pnt n hn) : S1x1x4000.Idx → EReal) shapeCasts_S1x1x4000_S1x4000) i (o + v)
        = ∑ v ∈ Finset.range 1000, expLogit (logit (fun i k => latV (F := Ideal) (W3 m) d (ix2 i k)) (wo m d) (bo m d) i) (n * 4000 + (o + v)) := fun o ho =>
      Finset.sum_congr rfl fun v hv => expAt_block m d _ (pnt n hn) i (o + v) (by have := Finset.mem_range.mp hv; omega)
    rw [hb 0 (by decide), hb 1000 (by decide), hb 2000 (by decide), hb 3000 (by decide)]
    exact (four_chunks fun v => expLogit (logit (fun i k => latV (F := Ideal) (W3 m) d (ix2 i k)) (wo m d) (bo m d) i) (n * 4000 + v)).symm

/-- At the end they add up to all of them. -/
theorem accV_total (i : Fin 1024) : ∑ l : Fin 128, accV (F := Ideal) (W3 m) d 25 (ix2 i l)
    = ∑ v : Fin 100000, Ideal.exp (logit (fun i k => latV (F := Ideal) (W3 m) d (ix2 i k)) (wo m d) (bo m d) i v) := by
  rw [accV_sum m d i 25 le_rfl, show 25 * 4000 = 100000 from rfl, ← Fin.sum_univ_eq_sum_range]
  exact Finset.sum_congr rfl fun v _ => dif_pos v.isLt

/-- The loss that the kernel stores. -/
theorem lossV_apply (ht : ∀ j, (tgt m d j).toNat < 100000) (hb : ∀ j, bo m d j ≠ ⊤ ∧ bo m d j ≠ ⊥) :
    lossV (F := Ideal) (W3 m) d (ix2 (0 : Fin 1) (0 : Fin 1))
      = meanLoss (logit (fun i k => latV (F := Ideal) (W3 m) d (ix2 i k)) (wo m d) (bo m d)) (node (tgt m d) ht) := by
  unfold lossV
  rw [iblk6, iblk7, iblk8, in6, in8, show (W3 m d main_v15 : S1024x1.Idx → BitVec 32) = shapeCast S1024x1 (tgt m d) shapeCasts_S1024_S1024x1 from V3_15 m d, latS_eq]
  refine (pay5_apply _ _ _ _ _).trans ?_
  unfold meanLoss
  refine congrArg (Ideal.div · _) (Finset.sum_congr rfl fun i _ => ?_)
  rw [accV_total, sub_sub_of_finite]
  · refine congrArg₂ (· - ·) rfl ?_
    unfold logit
    refine congrArg₂ (· + ·) (Finset.sum_congr rfl fun k _ => congrArg (_ * ·) ?_) ?_
    · rw [column_apply]; exact half_gath (wo m d) (tgt m d) ht i k
    · simp only [column_apply]; exact bias_gath (bo m d) _ (tgt m d) ht i
  · simp only [column_apply]; rw [bias_gath (bo m d) _ (tgt m d) ht i]; exact (hb _).1
  · simp only [column_apply]; rw [bias_gath (bo m d) _ (tgt m d) ht i]; exact (hb _).2

/-- The first result at the end. -/
theorem latent_value (hs : ∀ j, (src m d j).toNat < 100000) :
    (V5 m d (Proc.devRef .tc main_v16_0) : S1024x64.Idx → EReal) = fun j => latent (emb m d) (wh m d) (bh m d) (node (src m d) hs) (j 0) (j 1) := by
  rw [V5_16, arr9]
  funext j
  rw [eq_ix2 j]
  exact latV_apply m d hs _ _

/-- The second result at the end. -/
theorem loss_value (hs : ∀ j, (src m d j).toNat < 100000) (ht : ∀ j, (tgt m d j).toNat < 100000) (hb : ∀ j, bo m d j ≠ ⊤ ∧ bo m d j ≠ ⊥) :
    (V5 m d (Proc.devRef .tc main_v17) : S_.Idx → EReal)
      = fun _ => meanLoss (logit (latent (emb m d) (wh m d) (bh m d) (node (src m d) hs)) (wo m d) (bo m d)) (node (tgt m d) ht) := by
  rw [V5_17, arr10]
  funext j
  refine (shapeCast_apply _ _ _ (ix2 (0 : Fin 1) (0 : Fin 1)) rfl).trans ((lossV_apply m d ht hb).trans ?_)
  rw [show (fun i k => latV (F := Ideal) (W3 m) d (ix2 i k)) = latent (emb m d) (wh m d) (bh m d) (node (src m d) hs) from
    funext fun i => funext fun k => latV_apply m d hs i k]

end Cert.Proof.Run

end
-- ==== Proof.RefValue.lean ====
/-
  The reference's two results, over the extended reals: the latent rows and the mean loss of its arguments.
-/
module

public import proofs.«01_k».proof.Proof.Gen.ReferenceIdeal.Run
public import proofs.«01_k».proof.Proof.Formula
public import Idealize.ShloMosaic.Lib.IdealHost
public import Idealize.ShloMosaic.Lib.ReduceAll
public import Idealize.ShloMosaic.Lib.Routing.Ops
public import Idealize.ShloMosaic.Lib.Pipeline.Value
public import Idealize.ShloMosaic.PureOps.Ideal.Laws

@[expose] public section

noncomputable section

namespace Cert.Proof.Ref

open Cert.ReferenceIdeal Cert.ReferenceIdeal.Gen
open Idealize.ShloMosaic
open Idealize.ShloMosaic.TcCoe
open Idealize.ShloMosaic.ValueIdx
open Cert.Proof.Numbers
open scoped BigOperators

/-! ## The reference's stages -/

/-- The row numbers the embedding is taken at, a negative one counted from the end. -/
def takeIdx (s : IVec S1024 32) : IVec S1024x1 32 :=
  broadcastInDim S1024x1 ![0] bcast_S1024_S1024x1_0 (select (cmpi .slt s (broadcastInDim S1024 ![] bcast_S_S1024 (constantI S_ 32 0#32)))
    (addi s (broadcastInDim S1024 ![] bcast_S_S1024 (constantI S_ 32 100000#32))) s)

/-- The rows taken, filled in where a row number is out of range. -/
def takeRows (E : FVec Ideal S100000x64 .f32) (s : IVec S1024 32) : FVec Ideal S1024x64 .f32 :=
  select (broadcastInDim S1024x64 ![0] bcast_S1024_S1024x64_0 (Host.reduce IntOp.andi (andi (cmpi .sge (takeIdx s) (broadcastInDim S1024x1 ![] bcast_S_S1024x1 (constantI S_ 32 0#32)))
      (cmpi .sle (takeIdx s) (broadcastInDim S1024x1 ![0, 1] bcast_S1x1_S1024x1_0_1 (broadcastInDim S1x1 ![1] bcast_S1_S1x1_1 (constantI S1 32 99999#32)))))
      (constantI S_ 1 1#1) reducesTo_S1024x1_S1024_d1 h_S_))
    (Host.gather gather_S100000x64_S1024x1_S1024x64_1_0_n_n_0_1_164 E (takeIdx s)) (broadcastInDim S1024x64 ![] bcast_S_S1024x64 (constant S_ .f32 0x7FC00000#32))

/-- The rows through the hidden layer. -/
def hiddenRows (E : FVec Ideal S100000x64 .f32) (W : FVec Ideal S64x64 .f32) (b : FVec Ideal S64 .f32) (s : IVec S1024 32) : FVec Ideal S1024x64 .f32 :=
  addf (Host.dotGeneral dot_S1024x64_S64x64_S1024x64_1_0_0_1_n_n none (takeRows E s) (transpose S64x64 [1, 0] W transposes_S64x64_S64x64_1_0))
    (broadcastInDim S1024x64 ![0, 1] bcast_S1x64_S1024x64_0_1 (broadcastInDim S1x64 ![1] bcast_S64_S1x64_1 b))

/-- The rows' norms. -/
def norms (h : FVec Ideal S1024x64 .f32) : FVec Ideal S1024x1 .f32 :=
  Host.sqrt (broadcastInDim S1024x1 ![0] bcast_S1024_S1024x1_0 (Host.reduceAdd (mulf h h) (constant S_ .f32 0x00000000#32) reducesTo_S1024x64_S1024_d1 h_S_))

/-- The rows divided by their norms. -/
def latRows (h : FVec Ideal S1024x64 .f32) : FVec Ideal S1024x64 .f32 :=
  Host.divf h (broadcastInDim S1024x64 ![0, 1] bcast_S1024x1_S1024x64_0_1
    (select (cmpf .oeq (norms h) (broadcastInDim S1024x1 ![] bcast_S_S1024x1 (constant S_ .f32 0x00000000#32)))
      (broadcastInDim S1024x1 ![] bcast_S_S1024x1 (constant S_ .f32 0x3F800000#32)) (norms h)))

/-- The logits. -/
def logits (L : FVec Ideal S1024x64 .f32) (U : FVec Ideal S100000x64 .f32) (b : FVec Ideal S100000 .f32) : FVec Ideal S1024x100000 .f32 :=
  addf (Host.dotGeneral dot_S1024x64_S64x100000_S1024x100000_1_0_0_1_n_n none L (transpose S64x100000 [1, 0] U transposes_S100000x64_S64x100000_1_0))
    (broadcastInDim S1024x100000 ![0, 1] bcast_S1x100000_S1024x100000_0_1 (broadcastInDim S1x100000 ![1] bcast_S100000_S1x100000_1 b))

/-- The rows' largest logits. -/
def tops (g : FVec Ideal S1024x100000 .f32) : FVec Ideal S1024 .f32 :=
  Host.reduce FloatOps.maximumf g (constant S_ .f32 0xFF800000#32) reducesTo_S1024x100000_S1024_d1 h_S_

/-- What the rows are shifted by. -/
def shifts (g : FVec Ideal S1024x100000 .f32) : FVec Ideal S1024 .f32 :=
  select (cmpf .olt (Host.absf (tops g)) (broadcastInDim S1024 ![] bcast_S_S1024 (constant S_ .f32 0x7F800000#32))) (tops g)
    (broadcastInDim S1024 ![] bcast_S_S1024 (id (constant S_ .f32 0x00000000#32)))

/-- The rows' log-sum-exps. -/
def lses (g : FVec Ideal S1024x100000 .f32) : FVec Ideal S1024 .f32 :=
  addf (Host.log (Host.reduceAdd (Host.exp (subf g (broadcastInDim S1024x100000 ![0, 1] bcast_S1024x1_S1024x100000_0_1 (broadcastInDim S1024x1 ![0] bcast_S1024_S1024x1_0 (shifts g)))))
    (constant S_ .f32 0x00000000#32) reducesTo_S1024x100000_S1024_d1 h_S_)) (shifts g)

/-- The columns the targets' logits are taken at, a negative one counted from the end. -/
def alongIdx (t : IVec S1024 32) : IVec S1024x1x1 32 :=
  shapeCast S1024x1x1 (select (cmpi .slt (broadcastInDim S1024x1 ![0] bcast_S1024_S1024x1_0 t) (broadcastInDim S1024x1 ![] bcast_S_S1024x1 (constantI S_ 32 0#32)))
    (addi (broadcastInDim S1024x1 ![0] bcast_S1024_S1024x1_0 t) (broadcastInDim S1024x1 ![] bcast_S_S1024x1 (constantI S_ 32 100000#32)))
    (broadcastInDim S1024x1 ![0] bcast_S1024_S1024x1_0 t)) shapeCasts_S1024x1_S1024x1x1

/-- The targets' logits, filled in where a column is out of range. -/
def along (g : FVec Ideal S1024x100000 .f32) (t : IVec S1024 32) : FVec Ideal S1024x1 .f32 :=
  select (Host.reduce IntOp.andi (andi (cmpi .sge (alongIdx t) (broadcastInDim S1024x1x1 ![] bcast_S_S1024x1x1 (constantI S_ 32 0#32)))
      (cmpi .sle (alongIdx t) (broadcastInDim S1024x1x1 ![0, 1, 2] bcast_S1x1x1_S1024x1x1_0_1_2 (broadcastInDim S1x1x1 ![2] bcast_S1_S1x1x1_2 (constantI S1 32 99999#32)))))
      (constantI S_ 1 1#1) reducesTo_S1024x1x1_S1024x1_d2 h_S_)
    (Host.gather gather_S1024x100000_S1024x1x1_S1024x1_n_1_0_0_1_2_11 g (alongIdx t)) (broadcastInDim S1024x1 ![] bcast_S_S1024x1 (constant S_ .f32 0x7FC00000#32))

/-- The mean loss. -/
def lossOf (g : FVec Ideal S1024x100000 .f32) (t : IVec S1024 32) : FVec Ideal S_ .f32 :=
  Host.divf (Host.reduceAdd (subf (lses g) (shapeCast S1024 (along g t) shapeCasts_S1024x1_S1024)) (constant S_ .f32 0x00000000#32) reducesTo_S1024_S_d0 h_S_)
    (constant S_ .f32 0x44800000#32)

section

variable (m : (ℓ : Loc nD τ sig) → Buf (Elt Ideal) ℓ) (c : Dev nD)

/-- The arguments, as arrays of words and of numbers. -/
abbrev src : IVec S1024 32 := m ((c.tc : Thread nD τ).loc main_arg0)
abbrev tgt : IVec S1024 32 := m ((c.tc : Thread nD τ).loc main_arg1)
abbrev emb : FVec Ideal S100000x64 .f32 := m ((c.tc : Thread nD τ).loc main_arg2)
abbrev wh : FVec Ideal S64x64 .f32 := m ((c.tc : Thread nD τ).loc main_arg3)
abbrev bh : FVec Ideal S64 .f32 := m ((c.tc : Thread nD τ).loc main_arg4)
abbrev wo : FVec Ideal S100000x64 .f32 := m ((c.tc : Thread nD τ).loc main_arg5)
abbrev bo : FVec Ideal S100000 .f32 := m ((c.tc : Thread nD τ).loc main_arg6)

/-- The first result's term is the stages' … -/
theorem res0_eq : Value.res_main_v12 (F := Ideal) m c = latRows (hiddenRows (emb m c) (wh m c) (bh m c) (src m c)) := by
  unfold Value.res_main_v12 latRows norms hiddenRows takeRows takeIdx
  rfl

/-- … and the second's. -/
theorem res1_eq : Value.res_main_v35 (F := Ideal) m c
    = lossOf (logits (latRows (hiddenRows (emb m c) (wh m c) (bh m c) (src m c))) (wo m c) (bo m c)) (tgt m c) := by
  unfold Value.res_main_v35 lossOf lses shifts tops along alongIdx logits latRows norms hiddenRows takeRows takeIdx
  rfl

end

/-! ## Words -/

/-- A name is not negative, and is at most the last node. -/
theorem word_tests {v : BitVec 32} (h : v.toNat < 100000) :
    IntOp.cmpi .slt v 0#32 = 0#1 ∧ IntOp.cmpi .sge v 0#32 = 1#1 ∧ IntOp.cmpi .sle v 99999#32 = 1#1 := by
  have hone (p : Bool) : (BitVec.ofBool p = 1#1) ↔ p = true := by cases p <;> decide
  have hzero (p : Bool) : (BitVec.ofBool p = 0#1) ↔ p = false := by cases p <;> decide
  simp only [IntOp.cmpi, hone, hzero, BitVec.sle_eq_decide, BitVec.slt_eq_decide, decide_eq_true_eq, decide_eq_false_iff_not,
    BitVec.toInt_eq_toNat_cond, BitVec.toNat_ofNat, Nat.reducePow, Nat.reduceMod]
  omega

/-- A choice between a word and another, made by its sign: the word itself where it is a name. -/
theorem sign_choice {v w : BitVec 32} (h : v.toNat < 100000) : Scalar.select (IntOp.cmpi .slt v 0#32) w v = v := by
  rw [(word_tests h).1]; rfl

/-! ## The stages at an index -/

/-- A list of names written as a column. -/
theorem col_apply {α : Type} (x : S1024.Idx → α) (i : Fin 1024) : broadcastInDim S1024x1 ![0] bcast_S1024_S1024x1_0 x (ix2 i (0 : Fin 1)) = x (ix1 i) :=
  broadcastInDim_apply _ _ _ _ _ fun a => by
    match a with
    | 0 => rfl

/-- A name is taken as it is. -/
theorem takeIdx_apply (s : IVec S1024 32) (h : ∀ j, (s j).toNat < 100000) (i : Fin 1024) : takeIdx s (ix2 i (0 : Fin 1)) = s (ix1 i) := by
  unfold takeIdx
  rw [col_apply]
  exact sign_choice (h _)

/-- The rows taken are those that the names name. -/
theorem takeRows_apply (E : FVec Ideal S100000x64 .f32) (s : IVec S1024 32) (h : ∀ j, (s j).toNat < 100000) (i : Fin 1024) (l : Fin 64) :
    takeRows E s (ix2 i l) = E (ix2 (node s h i) l) := by
  unfold takeRows
  rw [select_apply]
  refine (congrArg (Scalar.select · _ _) (?_ : _ = 1#1)).trans (?_ : Host.gather gather_S100000x64_S1024x1_S1024x64_1_0_n_n_0_1_164 E (takeIdx s) (ix2 i l) = _)
  · refine (broadcastInDim_apply _ _ _ _ (ix1 i) fun a => by
      match a with
      | 0 => rfl).trans ?_
    refine Host.reduce_andi_one _ _ _ _ _ rfl fun j => ?_
    obtain ⟨q, rfl⟩ : ∃ q : Fin 1024, j = ix2 q (0 : Fin 1) :=
      ⟨j 0, (eq_ix2 j).trans (congrArg (ix2 (j 0)) (Subsingleton.elim (α := Fin 1) _ _))⟩
    show IntOp.andi (IntOp.cmpi .sge (takeIdx s (ix2 q (0 : Fin 1))) 0#32) (IntOp.cmpi .sle (takeIdx s (ix2 q (0 : Fin 1))) 99999#32) = 1#1
    rw [takeIdx_apply s h, (word_tests (h _)).2.1, (word_tests (h _)).2.2]
    rfl
  · exact Routing.gather_row _ rfl rfl rfl rfl rfl E (takeIdx s) i l (node s h i) (by
      rw [takeIdx_apply s h]
      simp [node]) (by decide)

/-- The hidden layer's product. -/
theorem dot_hidden (x : FVec Ideal S1024x64 .f32) (W : FVec Ideal S64x64 .f32) (i : Fin 1024) (k : Fin 64) :
    Host.dotGeneral (F := Ideal) dot_S1024x64_S64x64_S1024x64_1_0_0_1_n_n none x (transpose S64x64 [1, 0] W transposes_S64x64_S64x64_1_0) (ix2 i k)
      = ∑ l : Fin 64, x (ix2 i l) * W (ix2 k l) := by
  simp only [Host.dotGeneral]
  refine (Ideal.dotGeneral_apply _ _ _ _ _ _).trans ?_
  rw [← Equiv.sum_comp (contrEquiv1 dot_S1024x64_S64x64_S1024x64_1_0_0_1_n_n 64 rfl rfl).symm]
  refine Finset.sum_congr rfl fun l _ => ?_
  congr 1
  · refine congrArg x (funext fun a => Fin.ext ?_)
    match a with
    | 0 => rfl
    | 1 => rfl
  · refine transpose_apply _ _ _ _ _ fun b => ?_
    match b with
    | 0 => rfl
    | 1 => rfl

/-- The output layer's product. -/
theorem dot_out (x : FVec Ideal S1024x64 .f32) (U : FVec Ideal S100000x64 .f32) (i : Fin 1024) (v : Fin 100000) :
    Host.dotGeneral (F := Ideal) dot_S1024x64_S64x100000_S1024x100000_1_0_0_1_n_n none x (transpose S64x100000 [1, 0] U transposes_S100000x64_S64x100000_1_0) (ix2 i v)
      = ∑ k : Fin 64, x (ix2 i k) * U (ix2 v k) := by
  simp only [Host.dotGeneral]
  refine (Ideal.dotGeneral_apply _ _ _ _ _ _).trans ?_
  rw [← Equiv.sum_comp (contrEquiv1 dot_S1024x64_S64x100000_S1024x100000_1_0_0_1_n_n 64 rfl rfl).symm]
  refine Finset.sum_congr rfl fun l _ => ?_
  congr 1
  · refine congrArg x (funext fun a => Fin.ext ?_)
    match a with
    | 0 => rfl
    | 1 => rfl
  · refine transpose_apply _ _ _ _ _ fun b => ?_
    match b with
    | 0 => rfl
    | 1 => rfl

/-- The hidden layer at a row and a column. -/
theorem hiddenRows_apply (E : FVec Ideal S100000x64 .f32) (W : FVec Ideal S64x64 .f32) (b : FVec Ideal S64 .f32) (s : IVec S1024 32) (h : ∀ j, (s j).toNat < 100000)
    (i : Fin 1024) (k : Fin 64) :
    hiddenRows E W b s (ix2 i k) = hidRow (fun l => E (ix2 (node s h i) l)) (fun k l => W (ix2 k l)) (fun k => b (ix1 k)) k := by
  unfold hiddenRows hidRow
  rw [addf_apply, dot_hidden]
  refine congrArg₂ (· + ·) (Finset.sum_congr rfl fun l _ => by rw [takeRows_apply E s h]) ?_
  refine (broadcastInDim_apply _ _ _ _ (ix2 (0 : Fin 1) k) fun a => by
    match a with
    | 0 => rfl
    | 1 => rfl).trans (broadcastInDim_apply _ _ _ _ (ix1 k) fun a => by
    match a with
    | 0 => rfl)

/-- The norm of a row. -/
theorem norms_apply (h : FVec Ideal S1024x64 .f32) (i : Fin 1024) : norms h (ix2 i (0 : Fin 1)) = Ideal.sqrt (∑ k : Fin 64, h (ix2 i k) * h (ix2 i k)) := by
  unfold norms
  refine congrArg Ideal.sqrt ((col_apply _ i).trans ?_)
  rw [hostReduceAdd_apply, Ideal.hostReduceAdd_single _ (by decide : S1024x64.Reduces [1] S1024)]
  refine (congrArg (· + _) (Ideal.ofBits_zero_f32)).trans ((zero_add _).trans (Finset.sum_congr rfl fun k _ => ?_))
  refine congrArg (fun y => h y * h y) (funext fun a => Fin.ext ?_)
  match a with
  | 0 => rfl
  | 1 => rfl

/-- A row divided by its norm, or by one where that is zero. -/
theorem latRows_apply (h : FVec Ideal S1024x64 .f32) (i : Fin 1024) (k : Fin 64) : latRows h (ix2 i k) = unitRow (fun k => h (ix2 i k)) k := by
  unfold latRows unitRow
  rw [hostDivf_apply]
  refine congrArg (Ideal.div _) ((broadcastInDim_apply _ _ _ _ (ix2 i (0 : Fin 1)) fun a => by
    match a with
    | 0 => rfl
    | 1 => rfl).trans ?_)
  rw [select_apply, cmpf_apply, norms_apply]
  exact oneAtZero _

/-- The logits at a row and a node. -/
theorem logits_apply (L : FVec Ideal S1024x64 .f32) (U : FVec Ideal S100000x64 .f32) (b : FVec Ideal S100000 .f32) (i : Fin 1024) (v : Fin 100000) :
    logits L U b (ix2 i v) = logit (fun i k => L (ix2 i k)) U b i v := by
  unfold logits logit
  rw [addf_apply, dot_out]
  refine congrArg₂ (· + ·) rfl ?_
  refine (broadcastInDim_apply _ _ _ _ (ix2 (0 : Fin 1) v) fun a => by
    match a with
    | 0 => rfl
    | 1 => rfl).trans (broadcastInDim_apply _ _ _ _ (ix1 v) fun a => by
    match a with
    | 0 => rfl)

/-- The largest logit of a row, as a fold. -/
theorem tops_apply (g : FVec Ideal S1024x100000 .f32) (i : Fin 1024) : tops g (ix1 i) = Finset.univ.fold max (⊥ : EReal) (fun v : Fin 100000 => g (ix2 i v)) := by
  unfold tops
  refine (Host.reduce_eq_fold_single _ _ _ _ (by decide : S1024x100000.Reduces [1] S1024) _ _).trans ?_
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  refine congrArg (fun f : Fin 100000 → EReal => Finset.univ.fold max (⊥ : EReal) f) (funext fun v => congrArg g (funext fun a => Fin.ext ?_))
  match a with
  | 0 => rfl
  | 1 => rfl

/-- The shift of a list of maxima, at a row. -/
theorem shift_at (M : FVec Ideal S1024 .f32) (i : Fin 1024) :
    select (cmpf .olt (Host.absf M) (broadcastInDim S1024 ![] bcast_S_S1024 (constant S_ .f32 0x7F800000#32))) M
      (broadcastInDim S1024 ![] bcast_S_S1024 (id (constant S_ .f32 0x00000000#32))) (ix1 i) = shift (M (ix1 i)) := by
  unfold shift
  have e : cmpf .olt (Host.absf M) (broadcastInDim S1024 ![] bcast_S_S1024 (constant (F := Ideal) S_ .f32 0x7F800000#32)) (ix1 i)
      = BitVec.ofBool (decide (max (M (ix1 i)) (-(M (ix1 i))) < ⊤)) := by
    show BitVec.ofBool (decide (max (M (ix1 i)) (-(M (ix1 i))) < Ideal.ofBits .f32 0x7F800000#32)) = _
    rw [show Ideal.ofBits .f32 0x7F800000#32 = ⊤ by simp [Ideal.ofBits, Ideal.ieee]]
  rw [select_apply]
  refine (congrArg (Scalar.select · _ _) e).trans ?_
  by_cases hlt : max (M (ix1 i)) (-(M (ix1 i))) < ⊤
  · rw [if_pos hlt, decide_eq_true hlt]; rfl
  · rw [if_neg hlt, decide_eq_false hlt]; exact Ideal.ofBits_zero_f32

/-- The shift of a row is its largest logit where that is finite, else zero. -/
theorem shifts_apply (g : FVec Ideal S1024x100000 .f32) (i : Fin 1024) : shifts g (ix1 i) = shift (tops g (ix1 i)) := by
  unfold shifts
  exact shift_at (tops g) i

/-- A logarithm and a sum, at a row. -/
theorem log_add_at (x y : FVec Ideal S1024 .f32) (i : Fin 1024) : addf (Host.log x) y (ix1 i) = Ideal.log (x (ix1 i)) + y (ix1 i) := rfl

/-- The log-sum-exp of a row, the shift gone. -/
theorem lses_apply (g : FVec Ideal S1024x100000 .f32) (i : Fin 1024) : lses g (ix1 i) = Ideal.log (∑ v : Fin 100000, Ideal.exp (g (ix2 i v))) := by
  have hsum : (Host.reduceAdd (Host.exp (subf g (broadcastInDim S1024x100000 ![0, 1] bcast_S1024x1_S1024x100000_0_1 (broadcastInDim S1024x1 ![0] bcast_S1024_S1024x1_0 (shifts g)))))
      (constant S_ .f32 0x00000000#32) reducesTo_S1024x100000_S1024_d1 h_S_ : FVec Ideal S1024 .f32) (ix1 i) = ∑ v : Fin 100000, Ideal.exp (g (ix2 i v) - shift (tops g (ix1 i))) := by
    rw [hostReduceAdd_apply, Ideal.hostReduceAdd_single _ (by decide : S1024x100000.Reduces [1] S1024)]
    refine (congrArg (· + _) (Ideal.ofBits_zero_f32)).trans ((zero_add _).trans (Finset.sum_congr rfl fun v _ => ?_))
    refine congrArg Ideal.exp (congrArg₂ (· - ·) (congrArg g (funext fun a => Fin.ext ?_)) ?_)
    · match a with
      | 0 => rfl
      | 1 => rfl
    · refine (broadcastInDim_apply _ _ _ _ (ix2 i (0 : Fin 1)) fun a => by
        match a with
        | 0 => rfl
        | 1 => rfl).trans ((col_apply _ i).trans (shifts_apply g i))
  unfold lses
  rw [log_add_at, shifts_apply, hsum]
  refine (lse_shift _ _ (fun v => ?_) fun hne => ?_)
  · rw [tops_apply]
    exact (Finset.le_fold_max _).mpr (.inr ⟨v, Finset.mem_univ _, le_rfl⟩)
  · have hM := tops_apply g i
    rcases (Finset.le_fold_max _).mp (le_of_eq hM) with hbot | ⟨v, _, hv⟩
    · exact absurd (le_bot_iff.mp hbot) hne
    · exact ⟨v, le_antisymm (by rw [hM]; exact (Finset.le_fold_max _).mpr (.inr ⟨v, Finset.mem_univ _, le_rfl⟩)) hv⟩

/-- A target is taken as it is. -/
theorem alongIdx_apply (t : IVec S1024 32) (h : ∀ j, (t j).toNat < 100000) (i : Fin 1024) : alongIdx t (ix3 i (0 : Fin 1) (0 : Fin 1)) = t (ix1 i) := by
  unfold alongIdx
  refine (shapeCast_apply _ _ _ (ix2 i (0 : Fin 1)) (by
    rw [Shape.rowMajor_val_two, Shape.rowMajor_val_three]
    show i.val * 1 + 0 = (i.val * 1 + 0) * 1 + 0
    omega)).trans ?_
  rw [select_apply, col_apply]
  refine (congrArg (Scalar.select · _ _) (?_ : _ = IntOp.cmpi .slt (t (ix1 i)) 0#32)).trans (sign_choice (h _))
  exact congrArg (IntOp.cmpi .slt · 0#32) (col_apply t i)

/-- A row's element at a column that its index array names. -/
theorem gather_along (g : FVec Ideal S1024x100000 .f32) (idx : IVec S1024x1x1 32) (i : Fin 1024) (b : Fin 100000)
    (hb : (idx (ix3 i (0 : Fin 1) (0 : Fin 1))).toInt.toNat = b.val) :
    Host.gather gather_S1024x100000_S1024x1x1_S1024x1_n_1_0_0_1_2_11 g idx (ix2 i (0 : Fin 1)) = g (ix2 i b) := by
  have hb' : b.val < 100000 := b.isLt
  refine congrArg g (funext fun a => Fin.ext ?_)
  show gather_S1024x100000_S1024x1x1_S1024x1_n_1_0_0_1_2_11.start (ix2 i (0 : Fin 1)) idx a + gather_S1024x100000_S1024x1x1_S1024x1_n_1_0_0_1_2_11.batchCoord (ix2 i (0 : Fin 1)) a
      + gather_S1024x100000_S1024x1x1_S1024x1_n_1_0_0_1_2_11.offCoord (ix2 i (0 : Fin 1)) a = _
  match a with
  | 0 =>
    have h0 : (0 : Fin S1024x100000.rank) ∈ gather_S1024x100000_S1024x1x1_S1024x1_n_1_0_0_1_2_11.operandBatchingDims := List.mem_singleton.mpr rfl
    rw [GatherDims.start_batching _ _ _ _ h0, GatherDims.offCoord_eq_zero _ _ _ fun k => ((GatherDims.mem_sKept _ _).mp k).2 h0, Nat.zero_add, Nat.add_zero]
    unfold GatherDims.batchCoord
    rw [dif_pos h0]
    rfl
  | 1 =>
    have h1 : (1 : Fin S1024x100000.rank) ∈ gather_S1024x100000_S1024x1x1_S1024x1_n_1_0_0_1_2_11.collapsedSliceDims := List.mem_singleton.mpr rfl
    have hm : (1 : Fin S1024x100000.rank) ∈ gather_S1024x100000_S1024x1x1_S1024x1_n_1_0_0_1_2_11.startIndexMap := List.mem_singleton.mpr rfl
    rw [GatherDims.batchCoord_eq_zero _ _ _ (by decide), GatherDims.offCoord_eq_zero _ _ _ fun k => ((GatherDims.mem_sKept _ _).mp k).1 h1]
    simp only [Nat.add_zero]
    unfold GatherDims.start
    rw [dif_pos hm]
    have e : gather_S1024x100000_S1024x1x1_S1024x1_n_1_0_0_1_2_11.siIdx (ix2 i (0 : Fin 1))
        ⟨gather_S1024x100000_S1024x1x1_S1024x1_n_1_0_0_1_2_11.startIndexMap.idxOf 1, List.idxOf_lt_length_iff.2 hm⟩ = ix3 i (0 : Fin 1) (0 : Fin 1) := by
      refine funext fun p => Fin.ext ?_
      match p with
      | 0 => rfl
      | 1 => rfl
      | 2 => rfl
    rw [e, hb]
    show min b.val (100000 - 1) = b.val
    omega

/-- The logit taken from a row is its target's. -/
theorem along_apply (g : FVec Ideal S1024x100000 .f32) (t : IVec S1024 32) (h : ∀ j, (t j).toNat < 100000) (i : Fin 1024) :
    along g t (ix2 i (0 : Fin 1)) = g (ix2 i (node t h i)) := by
  unfold along
  rw [select_apply]
  refine (congrArg (Scalar.select · _ _) (?_ : _ = 1#1)).trans (?_ : Host.gather gather_S1024x100000_S1024x1x1_S1024x1_n_1_0_0_1_2_11 g (alongIdx t) (ix2 i (0 : Fin 1)) = _)
  · refine Host.reduce_andi_one _ _ _ _ _ rfl fun j => ?_
    obtain ⟨q, rfl⟩ : ∃ q : Fin 1024, j = ix3 q (0 : Fin 1) (0 : Fin 1) :=
      ⟨j 0, (eq_ix3 j).trans (congrArg₂ (ix3 (j 0)) (Subsingleton.elim (α := Fin 1) _ _) (Subsingleton.elim (α := Fin 1) _ _))⟩
    show IntOp.andi (IntOp.cmpi .sge (alongIdx t (ix3 q (0 : Fin 1) (0 : Fin 1))) 0#32) (IntOp.cmpi .sle (alongIdx t (ix3 q (0 : Fin 1) (0 : Fin 1))) 99999#32) = 1#1
    rw [alongIdx_apply t h, (word_tests (h _)).2.1, (word_tests (h _)).2.2]
    rfl
  · refine gather_along g _ i _ ?_
    have hi := h (ix1 i)
    rw [alongIdx_apply t h, BitVec.toInt_eq_toNat_cond, if_pos (by omega)]
    rfl

/-- The indices of a list are its positions. -/
def listIdx : S1024.Idx ≃ Fin 1024 where
  toFun j := j 0
  invFun i := ix1 i
  left_inv j := (eq_ix1 j).symm
  right_inv _ := rfl

/-- The mean of a list. -/
theorem mean_at (x : FVec Ideal S1024 .f32) (j : S_.Idx) :
    Host.divf (Host.reduceAdd x (constant S_ .f32 0x00000000#32) reducesTo_S1024_S_d0 h_S_) (constant S_ .f32 0x44800000#32) j
      = Ideal.div (∑ i : Fin 1024, x (ix1 i)) (Ideal.ofBits .f32 0x44800000#32) := by
  rw [hostDivf_apply, hostReduceAdd_apply, Ideal.hostReduceAdd_total _ (fun b => b.elim0), ← Equiv.sum_comp listIdx.symm]
  exact congrArg (Ideal.div · _) ((congrArg (· + _) (Ideal.ofBits_zero_f32)).trans (zero_add _))

/-- The mean loss is the mean over the batch of the log-sum-exps less the targets' logits. -/
theorem lossOf_apply (g : FVec Ideal S1024x100000 .f32) (t : IVec S1024 32) (h : ∀ j, (t j).toNat < 100000) (j : S_.Idx) :
    lossOf g t j = meanLoss (fun i v => g (ix2 i v)) (node t h) := by
  unfold lossOf meanLoss
  have hrow (i : Fin 1024) : subf (lses g) (shapeCast S1024 (along g t) shapeCasts_S1024x1_S1024) (ix1 i)
      = Ideal.log (∑ v : Fin 100000, Ideal.exp (g (ix2 i v))) - g (ix2 i (node t h i)) := by
    rw [subf_apply, lses_apply]
    have hs : shapeCast S1024 (along g t) shapeCasts_S1024x1_S1024 (ix1 i) = along g t (ix2 i (0 : Fin 1)) := shapeCast_apply _ _ _ _ (by
      rw [Shape.rowMajor_val_two, Shape.rowMajor_val_one]
      show i.val * 1 + 0 = i.val
      omega)
    rw [hs, along_apply g t h]
  rw [mean_at]
  simp only [hrow]

section

variable (m : (ℓ : Loc nD τ sig) → Buf (Elt Ideal) ℓ) (c : Dev nD)

/-- The first result of the reference. -/
theorem latent_value (hs : ∀ j, (src m c j).toNat < 100000) :
    (Value.res_main_v12 (F := Ideal) m c : S1024x64.Idx → EReal) = fun j => latent (emb m c) (wh m c) (bh m c) (node (src m c) hs) (j 0) (j 1) := by
  rw [res0_eq]
  funext j
  obtain ⟨i, k, rfl⟩ : ∃ (i : Fin 1024) (k : Fin 64), j = ix2 i k := ⟨j 0, j 1, eq_ix2 j⟩
  rw [latRows_apply]
  unfold latent
  exact congrArg (unitRow · _) (funext fun k => hiddenRows_apply _ _ _ _ hs _ k)

/-- The second result of the reference. -/
theorem loss_value (hs : ∀ j, (src m c j).toNat < 100000) (ht : ∀ j, (tgt m c j).toNat < 100000) :
    (Value.res_main_v35 (F := Ideal) m c : S_.Idx → EReal)
      = fun _ => meanLoss (logit (latent (emb m c) (wh m c) (bh m c) (node (src m c) hs)) (wo m c) (bo m c)) (node (tgt m c) ht) := by
  rw [res1_eq, ← res0_eq]
  funext j
  rw [lossOf_apply _ _ ht]
  refine congrArg (meanLoss · _) (funext fun i => funext fun v => (logits_apply _ _ _ i v).trans ?_)
  refine congrArg (fun L => logit L (wo m c) (bo m c) i v) (funext fun i => funext fun k => ?_)
  exact congrFun (latent_value m c hs) (ix2 i k)

end

end Cert.Proof.Ref

end
-- ==== Proof.Algebraic.lean ====
/-
  The value claim: over the extended reals the kernel and the reference, from equal arguments, end with equal results.
-/
module

public import proofs.«01_k».proof.Proof.Frames
public import proofs.«01_k».proof.Proof.KernelValue
public import proofs.«01_k».proof.Proof.RefValue

@[expose] public section

noncomputable section

namespace Cert.Proof

open Idealize.ShloMosaic Idealize.ShloMosaic.TcCoe Idealize.SL.Sem

/-- Equal lists of names name equal nodes. -/
theorem node_eq {x y : (⟨1, ![1024]⟩ : Shape).Idx → BitVec 32} (e : x = y) (hx : ∀ j, (x j).toNat < 100000) (hy : ∀ j, (y j).toNat < 100000) :
    Numbers.node x hx = Numbers.node y hy := by
  subst e; rfl

/-- Both results of the reference are the kernel's, the indices in range and the output bias finite: the latent rows,
    and the mean loss. -/
theorem algebraic : Cert.algebraic_KernelIdeal_ReferenceIdeal_pre_indices_in_range_bias_finite := by
  intro m g m' g' hpre hargs
  have hn := fun d => names_bias_of_pre _ _ _ _ _ _ _ (hpre d)
  refine ⟨fun c => Run.V5 m c (Proc.devRef .tc Cert.KernelIdeal.main_v16_0), fun c => Run.V5 m c (Proc.devRef .tc Cert.KernelIdeal.main_v17),
    (θ_run Cert.KernelIdeal.defs _ _).mono (fun _ hr => hr.1) (run_args m g fun d => (hn d).1),
    (θ_run Cert.ReferenceIdeal.defs _ _).mono (fun r h c => ?_) (Cert.ReferenceIdeal.Value.run (F := Ideal) m' g')⟩
  obtain ⟨h0, h1, h2, h3, h4, h5, h6⟩ := hargs c
  have e0 : Ref.src m' c = Run.src m c := h0
  have e1 : Ref.tgt m' c = Run.tgt m c := h1
  have e2 : Ref.emb m' c = Run.emb m c := h2
  have e3 : Ref.wh m' c = Run.wh m c := h3
  have e4 : Ref.bh m' c = Run.bh m c := h4
  have e5 : Ref.wo m' c = Run.wo m c := h5
  have e6 : Ref.bo m' c = Run.bo m c := h6
  have hs : ∀ j, (Run.src m c j).toNat < 100000 := (hn c).1.1
  have ht : ∀ j, (Run.tgt m c j).toNat < 100000 := (hn c).1.2
  have hs' : ∀ j, (Ref.src m' c j).toNat < 100000 := by rw [e0]; exact hs
  have ht' : ∀ j, (Ref.tgt m' c j).toNat < 100000 := by rw [e1]; exact ht
  have n0 : Numbers.node (Ref.src m' c) hs' = Numbers.node (Run.src m c) hs := node_eq e0 hs' hs
  have n1 : Numbers.node (Ref.tgt m' c) ht' = Numbers.node (Run.tgt m c) ht := node_eq e1 ht' ht
  refine ⟨(h c).1.trans ?_, (h c).2.1.trans ?_, (h c).2.2⟩
  · refine (Ref.latent_value m' c hs').trans (Eq.trans ?_ (Run.latent_value m c hs).symm)
    rw [n0, e2, e3, e4]
    rfl
  · refine (Ref.loss_value m' c hs' ht').trans (Eq.trans ?_ (Run.loss_value m c hs ht (hn c).2).symm)
    rw [n0, n1, e2, e3, e4, e5, e6]
    rfl

end Cert.Proof

end
-- ==== Proof.lean ====
/-
  The claim about the kernel, from its parts: the frames, the passage to the extended reals, and the values of both results.
-/
module

public import proofs.«01_k».proof.Defs
public import proofs.«01_k».proof.Proof.Frames
public import proofs.«01_k».proof.Proof.Algebraic

@[expose] public section

namespace Cert.Proof

/-- Every conjunct of the certificate: the frames of the kernel (over the machine's floats and over the extended reals) and of
    the reference, the passage from the kernel to its ideal program, and the equality of both results with the reference's. -/
theorem claim : Cert.Claim :=
  ⟨Cert.Kernel.Gen.facts, Cert.KernelIdeal.Gen.facts, Cert.ReferenceIdeal.Gen.facts, Cert.Pre_indices_in_range.Gen.facts,
    Cert.Pre_indices_in_range_bias_finite.Gen.facts, frame_kernel, frame_ideal, frame_ideal', frame_ref, frame_ref', trivial, algebraic⟩

end Cert.Proof

end
